-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)) (v1 : (c : Dev Cert.KernelIdeal.nD) → Buf (Elt Ideal) ((c.tc : Thread Cert.KernelIdeal.nD Cert.KernelIdeal.τ).loc Cert.KernelIdeal.main_v39)) (v2 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_v38) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v80) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S5120x4 : Shape := ⟨2, ![5120, 4]⟩
abbrev S5120 : Shape := ⟨1, ![5120]⟩
abbrev S4x5120 : Shape := ⟨2, ![4, 5120]⟩
abbrev S1x5120 : Shape := ⟨2, ![1, 5120]⟩
abbrev S512x512 : Shape := ⟨2, ![512, 512]⟩
abbrev S1x512 : Shape := ⟨2, ![1, 512]⟩
abbrev S512x1 : Shape := ⟨2, ![512, 1]⟩
abbrev S1 : Shape := ⟨1, ![1]⟩
abbrev S1x1 : Shape := ⟨2, ![1, 1]⟩
abbrev S1x4608 : Shape := ⟨2, ![1, 4608]⟩
abbrev S512x4608 : Shape := ⟨2, ![512, 4608]⟩
abbrev S4608 : Shape := ⟨1, ![4608]⟩
abbrev S1x4096 : Shape := ⟨2, ![1, 4096]⟩
abbrev S512x4096 : Shape := ⟨2, ![512, 4096]⟩
abbrev S4096 : Shape := ⟨1, ![4096]⟩
abbrev S1x3584 : Shape := ⟨2, ![1, 3584]⟩
abbrev S512x3584 : Shape := ⟨2, ![512, 3584]⟩
abbrev S3584 : Shape := ⟨1, ![3584]⟩
abbrev S1x3072 : Shape := ⟨2, ![1, 3072]⟩
abbrev S512x3072 : Shape := ⟨2, ![512, 3072]⟩
abbrev S3072 : Shape := ⟨1, ![3072]⟩
abbrev S1x2560 : Shape := ⟨2, ![1, 2560]⟩
abbrev S512x2560 : Shape := ⟨2, ![512, 2560]⟩
abbrev S2560 : Shape := ⟨1, ![2560]⟩
abbrev S1x2048 : Shape := ⟨2, ![1, 2048]⟩
abbrev S512x2048 : Shape := ⟨2, ![512, 2048]⟩
abbrev S2048 : Shape := ⟨1, ![2048]⟩
abbrev S1x1536 : Shape := ⟨2, ![1, 1536]⟩
abbrev S512x1536 : Shape := ⟨2, ![512, 1536]⟩
abbrev S1536 : Shape := ⟨1, ![1536]⟩
abbrev S1x1024 : Shape := ⟨2, ![1, 1024]⟩
abbrev S512x1024 : Shape := ⟨2, ![512, 1024]⟩
abbrev S1024 : Shape := ⟨1, ![1024]⟩
abbrev S512 : Shape := ⟨1, ![512]⟩
abbrev S300 : Shape := ⟨1, ![300]⟩
abbrev S300x1 : Shape := ⟨2, ![300, 1]⟩
abbrev S300x4 : Shape := ⟨2, ![300, 4]⟩

abbrev nBuf : Space → Nat
  | .hbm => 68
  | .vmem => 5
  | .smem => 0
  | _ => 0

abbrev bufTy : (tb : Table) → Fin (tcTables nBuf tb) → BufTy
  | .hbm, ⟨0, _⟩ => ⟨S5000x4, .f32⟩
  | .hbm, ⟨1, _⟩ => ⟨S5000, .f32⟩
  | .hbm, ⟨2, _⟩ => ⟨S5000, .f32⟩
  | .hbm, ⟨3, _⟩ => ⟨S5000, .i32⟩
  | .hbm, ⟨4, _⟩ => ⟨S5000, .f32⟩
  | .hbm, ⟨5, _⟩ => ⟨S5000, .i32⟩
  | .hbm, ⟨6, _⟩ => ⟨S_, .i32⟩
  | .hbm, ⟨7, _⟩ => ⟨S5000, .i32⟩
  | .hbm, ⟨8, _⟩ => ⟨S5000, .i1⟩
  | .hbm, ⟨9, _⟩ => ⟨S_, .i32⟩
  | .hbm, ⟨10, _⟩ => ⟨S5000, .i32⟩
  | .hbm, ⟨11, _⟩ => ⟨S5000, .i32⟩
  | .hbm, ⟨12, _⟩ => ⟨S5000, .i32⟩
  | .hbm, ⟨13, _⟩ => ⟨S5000x1, .i32⟩
  | .hbm, ⟨14, _⟩ => ⟨S5000x4, .f32⟩
  | .hbm, ⟨15, _⟩ => ⟨S_, .i32⟩
  | .hbm, ⟨16, _⟩ => ⟨S5000, .i32⟩
  | .hbm, ⟨17, _⟩ => ⟨S5000, .i1⟩
  | .hbm, ⟨18, _⟩ => ⟨S_, .i32⟩
  | .hbm, ⟨19, _⟩ => ⟨S5000, .i32⟩
  | .hbm, ⟨20, _⟩ => ⟨S5000, .i32⟩
  | .hbm, ⟨21, _⟩ => ⟨S5000, .i32⟩
  | .hbm, ⟨22, _⟩ => ⟨S5000x1, .i32⟩
  | .hbm, ⟨23, _⟩ => ⟨S5000, .f32⟩
  | .hbm, ⟨24, _⟩ => ⟨S_, .i32⟩
  | .hbm, ⟨25, _⟩ => ⟨S_, .f32⟩
  | .hbm, ⟨26, _⟩ => ⟨S5120x4, .f32⟩
  | .hbm, ⟨27, _⟩ => ⟨S_, .f32⟩
  | .hbm, ⟨28, _⟩ => ⟨S_, .f32⟩
  | .hbm, ⟨29, _⟩ => ⟨S5120, .f32⟩
  | .hbm, ⟨30, _⟩ => ⟨S4x5120, .f32⟩
  | .hbm, ⟨31, _⟩ => ⟨S1x5120, .f32⟩
  | .hbm, ⟨32, _⟩ => ⟨S1x5120, .f32⟩
  | .hbm, ⟨33, _⟩ => ⟨S5120, .f32⟩
  | .hbm, ⟨34, _⟩ => ⟨S_, .f32⟩
  | .hbm, ⟨35, _⟩ => ⟨S5120, .f32⟩
  | .hbm, ⟨36, _⟩ => ⟨S5120, .i1⟩
  | .hbm, ⟨37, _⟩ => ⟨S_, .f32⟩
  | .hbm, ⟨38, _⟩ => ⟨S_, .f32⟩
  | .hbm, ⟨39, _⟩ => ⟨S5120, .f32⟩
  | .hbm, ⟨40, _⟩ => ⟨S5120, .f32⟩
  | .hbm, ⟨41, _⟩ => ⟨S300, .f32⟩
  | .hbm, ⟨42, _⟩ => ⟨S300, .i32⟩
  | .hbm, ⟨43, _⟩ => ⟨S_, .f32⟩
  | .hbm, ⟨44, _⟩ => ⟨S300, .f32⟩
  | .hbm, ⟨45, _⟩ => ⟨S300, .i1⟩
  | .hbm, ⟨46, _⟩ => ⟨S_, .f32⟩
  | .hbm, ⟨47, _⟩ => ⟨S_, .f32⟩
  | .hbm, ⟨48, _⟩ => ⟨S300, .f32⟩
  | .hbm, ⟨49, _⟩ => ⟨S300, .f32⟩
  | .hbm, ⟨50, _⟩ => ⟨S_, .i32⟩
  | .hbm, ⟨51, _⟩ => ⟨S300, .i32⟩
  | .hbm, ⟨52, _⟩ => ⟨S300, .i1⟩
  | .hbm, ⟨53, _⟩ => ⟨S_, .i32⟩
  | .hbm, ⟨54, _⟩ => ⟨S300, .i32⟩
  | .hbm, ⟨55, _⟩ => ⟨S300, .i32⟩
  | .hbm, ⟨56, _⟩ => ⟨S300, .i32⟩
  | .hbm, ⟨57, _⟩ => ⟨S300x1, .i32⟩
  | .hbm, ⟨58, _⟩ => ⟨S300x4, .f32⟩
  | .hbm, ⟨59, _⟩ => ⟨S300x1, .i1⟩
  | .hbm, ⟨60, _⟩ => ⟨S300x1, .f32⟩
  | .hbm, ⟨61, _⟩ => ⟨S300x4, .f32⟩
  | .hbm, ⟨62, _⟩ => ⟨S300x4, .f32⟩
  | .hbm, ⟨63, _⟩ => ⟨S_, .i32⟩
  | .hbm, ⟨64, _⟩ => ⟨S_, .i32⟩
  | .hbm, ⟨65, _⟩ => ⟨S300, .i32⟩
  | .hbm, ⟨66, _⟩ => ⟨S300, .i32⟩
  | .hbm, ⟨67, _⟩ => ⟨S300, .i32⟩
  | .local _ .vmem, ⟨0, _⟩ => ⟨S5120x4, .f32⟩
  | .local _ .vmem, ⟨1, _⟩ => ⟨S4x5120, .f32⟩
  | .local _ .vmem, ⟨2, _⟩ => ⟨S1x5120, .f32⟩
  | .local _ .vmem, ⟨3, _⟩ => ⟨S1x5120, .f32⟩
  | .local _ .vmem, ⟨4, _⟩ => ⟨S512x512, .f32⟩
  | _, _ => ⟨S5000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c_3 : Ref sig .tc := ⟨.hbm, 24, rfl⟩
abbrev main_call1_v0 : Ref sig .tc := ⟨.hbm, 25, rfl⟩
abbrev main_v16 : Ref sig .tc := ⟨.hbm, 26, rfl⟩
abbrev main_cst : Ref sig .tc := ⟨.hbm, 27, rfl⟩
abbrev main_call2_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_call3_v0 : Ref sig .tc := ⟨.hbm, 38, rfl⟩
abbrev main_call3_v1 : Ref sig .tc := ⟨.hbm, 39, rfl⟩
abbrev main_v24 : Ref sig .tc := ⟨.hbm, 40, rfl⟩
abbrev main_values : Ref sig .tc := ⟨.hbm, 41, rfl⟩
abbrev main_indices : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_call4_v0 : Ref sig .tc := ⟨.hbm, 47, rfl⟩
abbrev main_call4_v1 : Ref sig .tc := ⟨.hbm, 48, rfl⟩
abbrev main_v27 : Ref sig .tc := ⟨.hbm, 49, rfl⟩
abbrev main_c_8 : Ref sig .tc := ⟨.hbm, 50, rfl⟩
abbrev main_v28 : Ref sig .tc := ⟨.hbm, 51, rfl⟩
abbrev main_v29 : Ref sig .tc := ⟨.hbm, 52, rfl⟩
abbrev main_c_9 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_c_10 : Ref sig .tc := ⟨.hbm, 63, rfl⟩
abbrev main_c_11 : Ref sig .tc := ⟨.hbm, 64, rfl⟩
abbrev main_call5_v0 : Ref sig .tc := ⟨.hbm, 65, rfl⟩
abbrev main_call5_v1 : Ref sig .tc := ⟨.hbm, 66, rfl⟩
abbrev main_v39 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c512_i32 : BitVec 32 := 512#32
  let v59 : BitVec 32 := Scalar.addi c0_i32 c512_i32
  let c1_i32 : BitVec 32 := 1#32
  ⟨c0_i32, v59, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let v1140 : Index := Scalar.indexCast arg5
  let c0_490 : Index := 0#32
  ![v1140.toNat, 0]
@[reducible] def k0_t2_loop : Scf.Loop 32 :=
  let c0_i32_70 : BitVec 32 := 0#32
  let c512_i32_71 : BitVec 32 := 512#32
  let v179 : BitVec 32 := Scalar.addi c0_i32_70 c512_i32_71
  let c1_i32_72 : BitVec 32 := 1#32
  ⟨c0_i32_70, v179, c1_i32_72⟩
def k0_off2 (k0_t2 : Fin k0_t2_loop.trips) : Fin 2 → Nat :=
  let c0_i32_70 : BitVec 32 := 0#32
  let c1_i32_72 : BitVec 32 := 1#32
  let arg5 : BitVec 32 := Scf.iv c0_i32_70 c1_i32_72 k0_t2
  let v1140 : Index := Scalar.indexCast arg5
  let c0_490 : Index := 0#32
  ![v1140.toNat, 0]
@[reducible] def k0_t3_loop : Scf.Loop 32 :=
  let c0_i32_122 : BitVec 32 := 0#32
  let c512_i32_123 : BitVec 32 := 512#32
  let v299 : BitVec 32 := Scalar.addi c0_i32_122 c512_i32_123
  let c1_i32_124 : BitVec 32 := 1#32
  ⟨c0_i32_122, v299, c1_i32_124⟩
def k0_off3 (k0_t3 : Fin k0_t3_loop.trips) : Fin 2 → Nat :=
  let c0_i32_122 : BitVec 32 := 0#32
  let c1_i32_124 : BitVec 32 := 1#32
  let arg5 : BitVec 32 := Scf.iv c0_i32_122 c1_i32_124 k0_t3
  let v1140 : Index := Scalar.indexCast arg5
  let c0_490 : Index := 0#32
  ![v1140.toNat, 0]
@[reducible] def k0_t4_loop : Scf.Loop 32 :=
  let c0_i32_174 : BitVec 32 := 0#32
  let c512_i32_175 : BitVec 32 := 512#32
  let v419 : BitVec 32 := Scalar.addi c0_i32_174 c512_i32_175
  let c1_i32_176 : BitVec 32 := 1#32
  ⟨c0_i32_174, v419, c1_i32_176⟩
def k0_off4 (k0_t4 : Fin k0_t4_loop.trips) : Fin 2 → Nat :=
  let c0_i32_174 : BitVec 32 := 0#32
  let c1_i32_176 : BitVec 32 := 1#32
  let arg5 : BitVec 32 := Scf.iv c0_i32_174 c1_i32_176 k0_t4
  let v1140 : Index := Scalar.indexCast arg5
  let c0_490 : Index := 0#32
  ![v1140.toNat, 0]
@[reducible] def k0_t5_loop : Scf.Loop 32 :=
  let c0_i32_226 : BitVec 32 := 0#32
  let c512_i32_227 : BitVec 32 := 512#32
  let v539 : BitVec 32 := Scalar.addi c0_i32_226 c512_i32_227
  let c1_i32_228 : BitVec 32 := 1#32
  ⟨c0_i32_226, v539, c1_i32_228⟩
def k0_off5 (k0_t5 : Fin k0_t5_loop.trips) : Fin 2 → Nat :=
  let c0_i32_226 : BitVec 32 := 0#32
  let c1_i32_228 : BitVec 32 := 1#32
  let arg5 : BitVec 32 := Scf.iv c0_i32_226 c1_i32_228 k0_t5
  let v1140 : Index := Scalar.indexCast arg5
  let c0_490 : Index := 0#32
  ![v1140.toNat, 0]
@[reducible] def k0_t6_loop : Scf.Loop 32 :=
  let c0_i32_278 : BitVec 32 := 0#32
  let c512_i32_279 : BitVec 32 := 512#32
  let v659 : BitVec 32 := Scalar.addi c0_i32_278 c512_i32_279
  let c1_i32_280 : BitVec 32 := 1#32
  ⟨c0_i32_278, v659, c1_i32_280⟩
def k0_off6 (k0_t6 : Fin k0_t6_loop.trips) : Fin 2 → Nat :=
  let c0_i32_278 : BitVec 32 := 0#32
  let c1_i32_280 : BitVec 32 := 1#32
  let arg5 : BitVec 32 := Scf.iv c0_i32_278 c1_i32_280 k0_t6
  let v1140 : Index := Scalar.indexCast arg5
  let c0_490 : Index := 0#32
  ![v1140.toNat, 0]
@[reducible] def k0_t7_loop : Scf.Loop 32 :=
  let c0_i32_330 : BitVec 32 := 0#32
  let c512_i32_331 : BitVec 32 := 512#32
  let v779 : BitVec 32 := Scalar.addi c0_i32_330 c512_i32_331
  let c1_i32_332 : BitVec 32 := 1#32
  ⟨c0_i32_330, v779, c1_i32_332⟩
def k0_off7 (k0_t7 : Fin k0_t7_loop.trips) : Fin 2 → Nat :=
  let c0_i32_330 : BitVec 32 := 0#32
  let c1_i32_332 : BitVec 32 := 1#32
  let arg5 : BitVec 32 := Scf.iv c0_i32_330 c1_i32_332 k0_t7
  let v1140 : Index := Scalar.indexCast arg5
  let c0_490 : Index := 0#32
  ![v1140.toNat, 0]
@[reducible] def k0_t8_loop : Scf.Loop 32 :=
  let c0_i32_382 : BitVec 32 := 0#32
  let c512_i32_383 : BitVec 32 := 512#32
  let v899 : BitVec 32 := Scalar.addi c0_i32_382 c512_i32_383
  let c1_i32_384 : BitVec 32 := 1#32
  ⟨c0_i32_382, v899, c1_i32_384⟩
def k0_off8 (k0_t8 : Fin k0_t8_loop.trips) : Fin 2 → Nat :=
  let c0_i32_382 : BitVec 32 := 0#32
  let c1_i32_384 : BitVec 32 := 1#32
  let arg5 : BitVec 32 := Scf.iv c0_i32_382 c1_i32_384 k0_t8
  let v1140 : Index := Scalar.indexCast arg5
  let c0_490 : Index := 0#32
  ![v1140.toNat, 0]
@[reducible] def k0_t9_loop : Scf.Loop 32 :=
  let c0_i32_434 : BitVec 32 := 0#32
  let c512_i32_435 : BitVec 32 := 512#32
  let v1019 : BitVec 32 := Scalar.addi c0_i32_434 c512_i32_435
  let c1_i32_436 : BitVec 32 := 1#32
  ⟨c0_i32_434, v1019, c1_i32_436⟩
def k0_off9 (k0_t9 : Fin k0_t9_loop.trips) : Fin 2 → Nat :=
  let c0_i32_434 : BitVec 32 := 0#32
  let c1_i32_436 : BitVec 32 := 1#32
  let arg5 : BitVec 32 := Scf.iv c0_i32_434 c1_i32_436 k0_t9
  let v1140 : Index := Scalar.indexCast arg5
  let c0_490 : Index := 0#32
  ![v1140.toNat, 0]
@[reducible] def k0_t10_loop : Scf.Loop 32 :=
  let c0_i32_486 : BitVec 32 := 0#32
  let c512_i32_487 : BitVec 32 := 512#32
  let v1139 : BitVec 32 := Scalar.addi c0_i32_486 c512_i32_487
  let c1_i32_488 : BitVec 32 := 1#32
  ⟨c0_i32_486, v1139, c1_i32_488⟩
def k0_off10 (k0_t10 : Fin k0_t10_loop.trips) : Fin 2 → Nat :=
  let c0_i32_486 : BitVec 32 := 0#32
  let c1_i32_488 : BitVec 32 := 1#32
  let arg5 : BitVec 32 := Scf.iv c0_i32_486 c1_i32_488 k0_t10
  let v1140 : Index := Scalar.indexCast arg5
  let c0_490 : Index := 0#32
  ![v1140.toNat, 0]
abbrev stage0_0 : Fin 1 → Memref sig .tc .vmem S5120x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x5120 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S5000x4 : Shape := ⟨2, ![5000, 4]⟩
abbrev S5000 : Shape := ⟨1, ![5000]⟩
abbrev S_ : Shape := ⟨0, ![]⟩
abbrev S5000x1 : Shape := ⟨2, ![5000, 1]⟩
abbrev S1x5000 : Shape := ⟨2, ![1, 5000]⟩
abbrev S5000x5000 : Shape := ⟨2, ![5000, 5000]⟩
abbrev S1 : Shape := ⟨1, ![1]⟩
abbrev S300 : Shape := ⟨1, ![300]⟩
abbrev S300x1 : Shape := ⟨2, ![300, 1]⟩
abbrev S300x4 : Shape := ⟨2, ![300, 4]⟩

abbrev nBuf : Space → Nat
  | .hbm => 159
  | .vmem => 0
  | .smem => 0
  | _ => 0

abbrev hbmTy0_0 (i : Nat) : BufTy := match i % 128 with
  | 0 => ⟨S5000x4, .f32⟩
  | 1 => ⟨S5000, .f32⟩
  | 2 => ⟨S5000, .f32⟩
  | 3 => ⟨S5000, .i32⟩
  | 4 => ⟨S5000, .f32⟩
  | 5 => ⟨S5000, .i32⟩
  | 6 => ⟨S_, .i32⟩
  | 7 => ⟨S5000, .i32⟩
  | 8 => ⟨S5000, .i1⟩
  | 9 => ⟨S_, .i32⟩
  | 10 => ⟨S5000, .i32⟩
  | 11 => ⟨S5000, .i32⟩
  | 12 => ⟨S5000, .i32⟩
  | 13 => ⟨S5000x1, .i32⟩
  | 14 => ⟨S5000x4, .f32⟩
  | 15 => ⟨S_, .i32⟩
  | 16 => ⟨S5000, .i32⟩
  | 17 => ⟨S5000, .i1⟩
  | 18 => ⟨S_, .i32⟩
  | 19 => ⟨S5000, .i32⟩
  | 20 => ⟨S5000, .i32⟩
  | 21 => ⟨S5000, .i32⟩
  | 22 => ⟨S5000x1, .i32⟩
  | 23 => ⟨S5000, .f32⟩
  | 24 => ⟨S5000x1, .f32⟩
  | 25 => ⟨S5000, .f32⟩
  | 26 => ⟨S5000x1, .f32⟩
  | 27 => ⟨S5000, .f32⟩
  | 28 => ⟨S5000x1, .f32⟩
  | 29 => ⟨S5000, .f32⟩
  | 30 => ⟨S5000x1, .f32⟩
  | 31 => ⟨S5000, .f32⟩
  | 32 => ⟨S5000, .f32⟩
  | 33 => ⟨S5000, .f32⟩
  | 34 => ⟨S5000, .f32⟩
  | 35 => ⟨S5000x1, .f32⟩
  | 36 => ⟨S1x5000, .f32⟩
  | 37 => ⟨S5000x5000, .f32⟩
  | 38 => ⟨S5000x5000, .f32⟩
  | 39 => ⟨S5000x5000, .f32⟩
  | 40 => ⟨S5000x1, .f32⟩
  | 41 => ⟨S1x5000, .f32⟩
  | 42 => ⟨S5000x5000, .f32⟩
  | 43 => ⟨S5000x5000, .f32⟩
  | 44 => ⟨S5000x5000, .f32⟩
  | 45 => ⟨S5000x1, .f32⟩
  | 46 => ⟨S1x5000, .f32⟩
  | 47 => ⟨S5000x5000, .f32⟩
  | 48 => ⟨S5000x5000, .f32⟩
  | 49 => ⟨S5000x5000, .f32⟩
  | 50 => ⟨S5000x1, .f32⟩
  | 51 => ⟨S1x5000, .f32⟩
  | 52 => ⟨S5000x5000, .f32⟩
  | 53 => ⟨S5000x5000, .f32⟩
  | 54 => ⟨S5000x5000, .f32⟩
  | 55 => ⟨S5000x5000, .f32⟩
  | 56 => ⟨S_, .f32⟩
  | 57 => ⟨S_, .f32⟩
  | 58 => ⟨S5000x5000, .f32⟩
  | 59 => ⟨S5000x5000, .f32⟩
  | 60 => ⟨S5000x5000, .f32⟩
  | 61 => ⟨S_, .f32⟩
  | 62 => ⟨S_, .f32⟩
  | 63 => ⟨S5000x5000, .f32⟩
  | 64 => ⟨S5000x5000, .f32⟩
  | 65 => ⟨S5000x5000, .f32⟩
  | 66 => ⟨S5000x1, .f32⟩
  | 67 => ⟨S1x5000, .f32⟩
  | 68 => ⟨S5000x5000, .f32⟩
  | 69 => ⟨S5000x5000, .f32⟩
  | 70 => ⟨S5000x5000, .f32⟩
  | 71 => ⟨S5000x5000, .f32⟩
  | 72 => ⟨S_, .f32⟩
  | 73 => ⟨S5000x5000, .f32⟩
  | 74 => ⟨S5000x5000, .f32⟩
  | 75 => ⟨S5000x5000, .f32⟩
  | 76 => ⟨S5000, .i32⟩
  | 77 => ⟨S_, .f32⟩
  | 78 => ⟨S5000, .f32⟩
  | 79 => ⟨S5000, .i1⟩
  | 80 => ⟨S_, .i32⟩
  | 81 => ⟨S_, .i32⟩
  | 82 => ⟨S5000x5000, .f32⟩
  | 83 => ⟨S5000, .i32⟩
  | 84 => ⟨S_, .i32⟩
  | 85 => ⟨S_, .i32⟩
  | 86 => ⟨S5000, .i1⟩
  | 87 => ⟨S_, .i32⟩
  | 88 => ⟨S_, .i1⟩
  | 89 => ⟨S_, .i32⟩
  | 90 => ⟨S_, .i32⟩
  | 91 => ⟨S_, .i32⟩
  | 92 => ⟨S_, .i32⟩
  | 93 => ⟨S_, .i1⟩
  | 94 => ⟨S_, .i32⟩
  | 95 => ⟨S_, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S_, .i32⟩
  | 103 => ⟨S_, .i32⟩
  | 104 => ⟨S_, .i32⟩
  | 105 => ⟨S1x5000, .f32⟩
  | 106 => ⟨S5000, .f32⟩
  | 107 => ⟨S_, .f32⟩
  | 108 => ⟨S5000, .f32⟩
  | 109 => ⟨S5000, .i1⟩
  | 110 => ⟨S_, .i32⟩
  | 111 => ⟨S5000, .i32⟩
  | 112 => ⟨S5000, .i1⟩
  | 113 => ⟨S5000, .i1⟩
  | 114 => ⟨S_, .i32⟩
  | 115 => ⟨S_, .i1⟩
  | 116 => ⟨S_, .i32⟩
  | 117 => ⟨S_, .i32⟩
  | 118 => ⟨S_, .i32⟩
  | 119 => ⟨S_, .i32⟩
  | 120 => ⟨S1, .i1⟩
  | 121 => ⟨S_, .i1⟩
  | 122 => ⟨S5000, .i1⟩
  | 123 => ⟨S5000, .i1⟩
  | 124 => ⟨S5000, .i1⟩
  | 125 => ⟨S5000, .i1⟩
  | 126 => ⟨S_, .i32⟩
  | 127 => ⟨S_, .i32⟩
  | _ => ⟨S5000x4, .f32⟩

abbrev hbmTy0_1 (i : Nat) : BufTy := match i % 128 with
  | 0 => ⟨S_, .f32⟩
  | 1 => ⟨S_, .f32⟩
  | 2 => ⟨S5000, .f32⟩
  | 3 => ⟨S5000, .f32⟩
  | 4 => ⟨S300, .f32⟩
  | 5 => ⟨S300, .i32⟩
  | 6 => ⟨S_, .f32⟩
  | 7 => ⟨S300, .f32⟩
  | 8 => ⟨S300, .i1⟩
  | 9 => ⟨S_, .f32⟩
  | 10 => ⟨S_, .f32⟩
  | 11 => ⟨S300, .f32⟩
  | 12 => ⟨S300, .f32⟩
  | 13 => ⟨S_, .i32⟩
  | 14 => ⟨S300, .i32⟩
  | 15 => ⟨S300, .i1⟩
  | 16 => ⟨S_, .i32⟩
  | 17 => ⟨S300, .i32⟩
  | 18 => ⟨S300, .i32⟩
  | 19 => ⟨S300, .i32⟩
  | 20 => ⟨S300x1, .i32⟩
  | 21 => ⟨S300x4, .f32⟩
  | 22 => ⟨S300x1, .i1⟩
  | 23 => ⟨S300x1, .f32⟩
  | 24 => ⟨S300x4, .f32⟩
  | 25 => ⟨S300x4, .f32⟩
  | 26 => ⟨S_, .i32⟩
  | 27 => ⟨S_, .i32⟩
  | 28 => ⟨S300, .i32⟩
  | 29 => ⟨S300, .i32⟩
  | 30 => ⟨S300, .i32⟩
  | _ => ⟨S5000x4, .f32⟩

abbrev hbmTy (i : Nat) : BufTy := match i / 128 with
  | 0 => hbmTy0_0 i
  | 1 => hbmTy0_1 i
  | _ => ⟨S5000x4, .f32⟩

abbrev bufTy : (tb : Table) → Fin (tcTables nBuf tb) → BufTy
  | .hbm, ⟨i, _⟩ => hbmTy i
  | _, _ => ⟨S5000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1_0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst : Ref sig .tc := ⟨.hbm, 56, rfl⟩
abbrev main_call1_v0 : Ref sig .tc := ⟨.hbm, 57, rfl⟩
abbrev main_call1_v1 : Ref sig .tc := ⟨.hbm, 58, rfl⟩
abbrev main_v48 : Ref sig .tc := ⟨.hbm, 59, rfl⟩
abbrev main_v49 : Ref sig .tc := ⟨.hbm, 60, rfl⟩
abbrev main_cst_3 : Ref sig .tc := ⟨.hbm, 61, rfl⟩
abbrev main_call2_v0 : Ref sig .tc := ⟨.hbm, 62, rfl⟩
abbrev main_call2_v1 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_cst_5 : Ref sig .tc := ⟨.hbm, 77, rfl⟩
abbrev main_v62 : Ref sig .tc := ⟨.hbm, 78, rfl⟩
abbrev main_v63 : Ref sig .tc := ⟨.hbm, 79, rfl⟩
abbrev main_c_6 : Ref sig .tc := ⟨.hbm, 80, rfl⟩
abbrev main_c_7 : Ref sig .tc := ⟨.hbm, 81, rfl⟩
abbrev main_v64_0 : Ref sig .tc := ⟨.hbm, 82, rfl⟩
abbrev main_v64_1 : Ref sig .tc := ⟨.hbm, 83, rfl⟩
abbrev main_v64_2 : Ref sig .tc := ⟨.hbm, 84, rfl⟩
abbrev main_v64_3 : Ref sig .tc := ⟨.hbm, 85, rfl⟩
abbrev main_v64_4 : Ref sig .tc := ⟨.hbm, 86, rfl⟩
abbrev main_while0c_c_19 : Ref sig .tc := ⟨.hbm, 87, rfl⟩
abbrev main_while0c_v81 : Ref sig .tc := ⟨.hbm, 88, rfl⟩
abbrev main_while0b_c_19 : Ref sig .tc := ⟨.hbm, 89, rfl⟩
abbrev main_while0b_v81 : Ref sig .tc := ⟨.hbm, 90, rfl⟩
abbrev main_while0b_v82 : Ref sig .tc := ⟨.hbm, 91, rfl⟩
abbrev main_while0b_c_20 : Ref sig .tc := ⟨.hbm, 92, rfl⟩
abbrev main_while0b_v83 : Ref sig .tc := ⟨.hbm, 93, rfl⟩
abbrev main_while0b_c_21 : Ref sig .tc := ⟨.hbm, 94, rfl⟩
abbrev main_while0b_v84 : Ref sig .tc := ⟨.hbm, 95, rfl⟩
abbrev main_while0b_v85 : Ref sig .tc := ⟨.hbm, 96, rfl⟩
abbrev main_while0b_c_22 : Ref sig .tc := ⟨.hbm, 97, rfl⟩
abbrev main_while0b_c_23 : Ref sig .tc := ⟨.hbm, 98, rfl⟩
abbrev main_while0b_v86 : Ref sig .tc := ⟨.hbm, 99, rfl⟩
abbrev main_while0b_c_24 : Ref sig .tc := ⟨.hbm, 100, rfl⟩
abbrev main_while0b_c_25 : Ref sig .tc := ⟨.hbm, 101, rfl⟩
abbrev main_while0b_v87 : Ref sig .tc := ⟨.hbm, 102, rfl⟩
abbrev main_while0b_c_26 : Ref sig .tc := ⟨.hbm, 103, rfl⟩
abbrev main_while0b_v88 : Ref sig .tc := ⟨.hbm, 104, rfl⟩
abbrev main_while0b_v89 : Ref sig .tc := ⟨.hbm, 105, rfl⟩
abbrev main_while0b_v90 : Ref sig .tc := ⟨.hbm, 106, rfl⟩
abbrev main_while0b_cst_27 : Ref sig .tc := ⟨.hbm, 107, rfl⟩
abbrev main_while0b_v91 : Ref sig .tc := ⟨.hbm, 108, rfl⟩
abbrev main_while0b_v92 : Ref sig .tc := ⟨.hbm, 109, rfl⟩
abbrev main_while0b_v93 : Ref sig .tc := ⟨.hbm, 110, rfl⟩
abbrev main_while0b_v94 : Ref sig .tc := ⟨.hbm, 111, rfl⟩
abbrev main_while0b_v95 : Ref sig .tc := ⟨.hbm, 112, rfl⟩
abbrev main_while0b_v96 : Ref sig .tc := ⟨.hbm, 113, rfl⟩
abbrev main_while0b_c_28 : Ref sig .tc := ⟨.hbm, 114, rfl⟩
abbrev main_while0b_v97 : Ref sig .tc := ⟨.hbm, 115, rfl⟩
abbrev main_while0b_v98 : Ref sig .tc := ⟨.hbm, 116, rfl⟩
abbrev main_while0b_c_29 : Ref sig .tc := ⟨.hbm, 117, rfl⟩
abbrev main_while0b_v99 : Ref sig .tc := ⟨.hbm, 118, rfl⟩
abbrev main_while0b_v100 : Ref sig .tc := ⟨.hbm, 119, rfl⟩
abbrev main_while0b_v101 : Ref sig .tc := ⟨.hbm, 120, rfl⟩
abbrev main_while0b_v102 : Ref sig .tc := ⟨.hbm, 121, rfl⟩
abbrev main_while0b_v103 : Ref sig .tc := ⟨.hbm, 122, rfl⟩
abbrev main_while0b_v104 : Ref sig .tc := ⟨.hbm, 123, rfl⟩
abbrev main_while0b_v105 : Ref sig .tc := ⟨.hbm, 124, rfl⟩
abbrev main_while0b_v106 : Ref sig .tc := ⟨.hbm, 125, rfl⟩
abbrev main_while0b_c_30 : Ref sig .tc := ⟨.hbm, 126, rfl⟩
abbrev main_while0b_v107 : Ref sig .tc := ⟨.hbm, 127, rfl⟩
abbrev main_cst_8 : Ref sig .tc := ⟨.hbm, 128, rfl⟩
abbrev main_call3_v0 : Ref sig .tc := ⟨.hbm, 129, rfl⟩
abbrev main_call3_v1 : Ref sig .tc := ⟨.hbm, 130, rfl⟩
abbrev main_v65 : Ref sig .tc := ⟨.hbm, 131, rfl⟩
abbrev main_values : Ref sig .tc := ⟨.hbm, 132, rfl⟩
abbrev main_indices : Ref sig .tc := ⟨.hbm, 133, rfl⟩
abbrev main_cst_9 : Ref sig .tc := ⟨.hbm, 134, rfl⟩
abbrev main_v66 : Ref sig .tc := ⟨.hbm, 135, rfl⟩
abbrev main_v67 : Ref sig .tc := ⟨.hbm, 136, rfl⟩
abbrev main_cst_10 : Ref sig .tc := ⟨.hbm, 137, rfl⟩
abbrev main_call4_v0 : Ref sig .tc := ⟨.hbm, 138, rfl⟩
abbrev main_call4_v1 : Ref sig .tc := ⟨.hbm, 139, rfl⟩
abbrev main_v68 : Ref sig .tc := ⟨.hbm, 140, rfl⟩
abbrev main_c_11 : Ref sig .tc := ⟨.hbm, 141, rfl⟩
abbrev main_v69 : Ref sig .tc := ⟨.hbm, 142, rfl⟩
abbrev main_v70 : Ref sig .tc := ⟨.hbm, 143, rfl⟩
abbrev main_c_12 : Ref sig .tc := ⟨.hbm, 144, rfl⟩
abbrev main_v71 : Ref sig .tc := ⟨.hbm, 145, rfl⟩
abbrev main_v72 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_c_13 : Ref sig .tc := ⟨.hbm, 154, rfl⟩
abbrev main_c_14 : Ref sig .tc := ⟨.hbm, 155, rfl⟩
abbrev main_call5_v0 : Ref sig .tc := ⟨.hbm, 156, rfl⟩
abbrev main_call5_v1 : Ref sig .tc := ⟨.hbm, 157, rfl⟩
abbrev main_v80 : Ref sig .tc := ⟨.hbm, 158, rfl⟩

abbrev nD : Nat := 1
abbrev τ : Topo := Topo.v7x

variable {F : FTy → Type} [FloatOps F]

abbrev main_while0_count : Scf.Loop 32 := ⟨0#32, 5000#32, 1#32⟩
-- ==== Proof.RefFrame.lean ====
/- The reference program leaves its arguments unchanged: its host operations, those of the loop included, write other
   buffers only. Stated for any buffer that no operation writes, and read at the two arguments. -/
module

public import proofs.«01_k».proof.Defs
public import proofs.«01_k».proof.Proof.Gen.ReferenceIdeal
public import proofs.«01_k».proof.Proof.Gen.ReferenceIdeal.Run
public import Idealize.ShloMosaic.Lib.Claim

@[expose] public section

set_option maxRecDepth 16384

noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value

variable {F : FTy → Type} [FloatOps F]
variable (m : (ℓ : Loc nD τ sig) → Buf (Elt F) ℓ)

/-- A buffer that neither the loop's condition nor its body writes holds before every trip what it held at the entry. -/
theorem atK_keep (c : Dev nD) (b : Ref sig .tc) (hc : b ∉ condOps_W) (hb : b ∉ while0Ops0_W) :
    ∀ k, atK m k c (Proc.devRef .tc b) = entryContents preI m c (Proc.devRef .tc b)
  | 0 => rfl
  | k + 1 => by
    rw [show atK m (k + 1) c = after while0Ops0 (after condOps (atK m k c)) from rfl,
      after_of_writes_sub while0Ops0 _ while0Ops0_writes hb, after_of_writes_sub condOps _ condOps_writes hc,
      atK_keep c b hc hb k]

/-- The first argument at the end of `@main`. -/
theorem final_arg0 (c : Dev nD) :
    finalContents condOps preI bodyI postI 5000 m c (Proc.devRef .tc main_arg0) = m ((c.tc : Thread nD τ).loc main_arg0) := by
  simp only [finalContents, afterL_cons, afterL_nil]
  after_reads_simp
  refine (atK_keep m c main_arg0 (by decide) (by decide) 5000).trans ?_
  simp only [entryContents, afterL_cons, afterL_nil]
  after_reads_simp

/-- The second argument at the end of `@main`. -/
theorem final_arg1 (c : Dev nD) :
    finalContents condOps preI bodyI postI 5000 m c (Proc.devRef .tc main_arg1) = m ((c.tc : Thread nD τ).loc main_arg1) := by
  simp only [finalContents, afterL_cons, afterL_nil]
  after_reads_simp
  refine (atK_keep m c main_arg1 (by decide) (by decide) 5000).trans ?_
  simp only [entryContents, afterL_cons, afterL_nil]
  after_reads_simp

/-- `Cert.quiescent_ReferenceIdeal`: the arguments end unchanged, and the program declares no semaphore. -/
theorem frame_ri : Cert.quiescent_ReferenceIdeal (hReferenceIdeal := Cert.ReferenceIdeal.Gen.facts) := fun m ρ _ =>
  (θ_run _ _ _).mono (fun r h => ⟨fun c => ⟨(h c main_arg0 (by decide)).trans (final_arg0 m c),
      (h c main_arg1 (by decide)).trans (final_arg1 m c)⟩, Idealize.ShloMosaic.sem_eq_zero_of_no_sems (by decide) r.2⟩)
    (run_fold (F := Ideal) m ρ)

end Cert.Proof.Ref

end
-- ==== Proof.Block.lean ====
/- The kernel's vector operations on one block, at any width of the block's columns, read at an index: the overlap of two
   boxes, one trip of the scan, and the suppression of the columns right of a block. -/
module

public import proofs.«01_k».proof.Proof.Gen.KernelIdeal.Skeleton
public import Idealize.ShloMosaic.Lib.Pointwise
public import Idealize.ShloMosaic.Lib.IdealHost

@[expose] public section

set_option maxRecDepth 16384

noncomputable section

namespace Cert.Proof

open Idealize.ShloMosaic Idealize.ShloMosaic.TcCoe
open Cert.KernelIdeal Cert.KernelIdeal.Gen

/-- A block of 512 rows and `w` columns. -/
abbrev M (w : ℕ) : Shape := ⟨2, ![512, w]⟩
/-- A row of `w` entries. -/
abbrev R (w : ℕ) : Shape := ⟨2, ![1, w]⟩
/-- A vector of `w` entries. -/
abbrev V (w : ℕ) : Shape := ⟨1, ![w]⟩

/-- The number that an `f32` bit pattern denotes. -/
abbrev lit (b : BitVec 32) : EReal := Ideal.ofBits .f32 b

/-- The overlap of two boxes: the area of the intersection over the area of the union, as both programs compute it. -/
def iouE (p0 p1 p2 p3 t0 t1 t2 t3 : EReal) : EReal :=
  Ideal.div (max 0 (min p2 t2 - max p0 t0) * max 0 (min p3 t3 - max p1 t1))
    (max ((p2 - p0) * (p3 - p1) + (t2 - t0) * (t3 - t1)
      - max 0 (min p2 t2 - max p0 t0) * max 0 (min p3 t3 - max p1 t1)) (lit 0x322BCC77#32))

/-! ### The printed operations, at any width -/

/-- The overlaps of a column of boxes with a row of boxes. -/
def iouOp (w : ℕ) (hc : (M 1).Broadcasts (M w)) (hr : (R w).Broadcasts (M w)) (p0 p1 p2 p3 : FVec Ideal (M 1) .f32)
    (t0 t1 t2 t3 : FVec Ideal (R w) .f32) : FVec Ideal (M w) .f32 :=
  divf
    (mulf (maximumf (broadcast (M w) (Scalar.ofBits .f32 0x00000000#32 : Ideal .f32))
        (subf (minimumf (broadcastTo (M w) p2 hc) (broadcastTo (M w) t2 hr))
          (maximumf (broadcastTo (M w) p0 hc) (broadcastTo (M w) t0 hr))))
      (maximumf (broadcast (M w) (Scalar.ofBits .f32 0x00000000#32 : Ideal .f32))
        (subf (minimumf (broadcastTo (M w) p3 hc) (broadcastTo (M w) t3 hr))
          (maximumf (broadcastTo (M w) p1 hc) (broadcastTo (M w) t1 hr)))))
    (maximumf
      (subf (addf (broadcastTo (M w) (mulf (subf p2 p0) (subf p3 p1)) hc)
          (broadcastTo (M w) (mulf (subf t2 t0) (subf t3 t1)) hr))
        (mulf (maximumf (broadcast (M w) (Scalar.ofBits .f32 0x00000000#32 : Ideal .f32))
            (subf (minimumf (broadcastTo (M w) p2 hc) (broadcastTo (M w) t2 hr))
              (maximumf (broadcastTo (M w) p0 hc) (broadcastTo (M w) t0 hr))))
          (maximumf (broadcast (M w) (Scalar.ofBits .f32 0x00000000#32 : Ideal .f32))
            (subf (minimumf (broadcastTo (M w) p3 hc) (broadcastTo (M w) t3 hr))
              (maximumf (broadcastTo (M w) p1 hc) (broadcastTo (M w) t1 hr))))))
      (broadcast (M w) (Scalar.ofBits .f32 0x322BCC77#32 : Ideal .f32)))

/-- A column read at an index of the block: the row's entry. -/
theorem col_apply (w : ℕ) (hc : (M 1).Broadcasts (M w)) (x : FVec Ideal (M 1) .f32) (r : Fin 512) (l : Fin w) :
    broadcastTo (M w) x hc (ix2 r l) = x (ix2 r 0) := by
  unfold broadcastTo
  congr 1
  funext a
  match a with
  | ⟨0, _⟩ => rfl
  | ⟨1, _⟩ => rfl

/-- A row read at an index of the block: the column's entry. -/
theorem row_apply (w : ℕ) (hr : (R w).Broadcasts (M w)) (x : FVec Ideal (R w) .f32) (r : Fin 512) (l : Fin w) :
    broadcastTo (M w) x hr (ix2 r l) = x (ix2 0 l) := by
  unfold broadcastTo
  congr 1
  funext a
  match a with
  | ⟨0, _⟩ => rfl
  | ⟨1, _⟩ =>
    show (if h1 : w = 1 then (⟨0, _⟩ : Fin w) else ⟨l.val, _⟩) = l
    split
    · next h => subst h; exact Subsingleton.elim _ _
    · rfl

/-- The overlaps at an index: the row's box with the column's box. -/
theorem iouOp_apply (w : ℕ) (hc : (M 1).Broadcasts (M w)) (hr : (R w).Broadcasts (M w))
    (p0 p1 p2 p3 : FVec Ideal (M 1) .f32) (t0 t1 t2 t3 : FVec Ideal (R w) .f32) (r : Fin 512) (l : Fin w) :
    iouOp w hc hr p0 p1 p2 p3 t0 t1 t2 t3 (ix2 r l)
      = iouE (p0 (ix2 r 0)) (p1 (ix2 r 0)) (p2 (ix2 r 0)) (p3 (ix2 r 0))
        (t0 (ix2 0 l)) (t1 (ix2 0 l)) (t2 (ix2 0 l)) (t3 (ix2 0 l)) := by
  have hz : (Scalar.ofBits .f32 0x00000000#32 : Ideal .f32) = (0 : EReal) := Ideal.ofBits_zero_f32
  show Ideal.div
    (max (Scalar.ofBits .f32 0x00000000#32 : Ideal .f32) (min (broadcastTo (M w) p2 hc (ix2 r l)) (broadcastTo (M w) t2 hr (ix2 r l)) - max (broadcastTo (M w) p0 hc (ix2 r l)) (broadcastTo (M w) t0 hr (ix2 r l)))
      * max (Scalar.ofBits .f32 0x00000000#32 : Ideal .f32) (min (broadcastTo (M w) p3 hc (ix2 r l)) (broadcastTo (M w) t3 hr (ix2 r l)) - max (broadcastTo (M w) p1 hc (ix2 r l)) (broadcastTo (M w) t1 hr (ix2 r l))))
    (max (broadcastTo (M w) (mulf (subf p2 p0) (subf p3 p1)) hc (ix2 r l) + broadcastTo (M w) (mulf (subf t2 t0) (subf t3 t1)) hr (ix2 r l)
      - max (Scalar.ofBits .f32 0x00000000#32 : Ideal .f32) (min (broadcastTo (M w) p2 hc (ix2 r l)) (broadcastTo (M w) t2 hr (ix2 r l)) - max (broadcastTo (M w) p0 hc (ix2 r l)) (broadcastTo (M w) t0 hr (ix2 r l)))
        * max (Scalar.ofBits .f32 0x00000000#32 : Ideal .f32) (min (broadcastTo (M w) p3 hc (ix2 r l)) (broadcastTo (M w) t3 hr (ix2 r l)) - max (broadcastTo (M w) p1 hc (ix2 r l)) (broadcastTo (M w) t1 hr (ix2 r l))))
      (lit 0x322BCC77#32)) = _
  simp only [col_apply, row_apply, hz]
  rfl

/-- One trip of the scan: `k` the trip's word, `row` the overlaps of the scanned box, `kb` the block's flags. -/
def scanOp (lane : IVec (R 512) 32) (k : BitVec 32) (row kb : FVec Ideal (R 512) .f32) : FVec Ideal (R 512) .f32 :=
  mulf (shapeCast (R 512) kb shapeCasts_S1x512_S1x512)
    (subf (broadcast (R 512) (Scalar.ofBits .f32 0x3F800000#32 : Ideal .f32))
      (mulf
        (sitofp .f32 (extui 32 (andi (cmpf .ogt row (broadcast (R 512) (Scalar.ofBits .f32 0x3F000000#32 : Ideal .f32)))
          (cmpi .sgt lane (broadcast (R 512) k))) natLt_1_32))
        (broadcastTo (R 512)
          (shapeCast S1x1
            (multiReduction .maximumf [1] S1
              (select (cmpi .eq lane (broadcast (R 512) k)) (shapeCast (R 512) kb shapeCasts_S1x512_S1x512)
                (broadcast (R 512) (Scalar.ofBits .f32 0x00000000#32 : Ideal .f32)))
              0xFF800000#32 reduces_S1x512_S1 (.inl rfl) rfl) shapeCasts_S1_S1x1) broadcasts_S1x1_S1x512)))

/-- The block's flags as a column: the identity matrix times the row. -/
def kcolOp (kb : FVec Ideal (R 512) .f32) : FVec Ideal (M 1) .f32 :=
  matmul dot_S512x512_S1x512_S512x1_1_1_0_0_n_n none
    (sitofp .f32 (extui 32 (cmpi .eq (iota .tc S512x512 32 [0] iota_S512x512_d0_w32) (iota .tc S512x512 32 [1] iota_S512x512_d1_w32)) natLt_1_32)
      : FVec Ideal S512x512 .f32)
    (shapeCast (R 512) kb shapeCasts_S1x512_S1x512) (constant S512x1 .f32 0x00000000#32)

/-- The greatest overlap of a kept row with each column. -/
def supOp (w : ℕ) (hc : (M 1).Broadcasts (M w)) (hd : (M w).Reduces [0] (V w)) (hs : (V w).ShapeCasts (R w))
    (iou : FVec Ideal (M w) .f32) (kcol : FVec Ideal (M 1) .f32) : FVec Ideal (R w) .f32 :=
  shapeCast (R w)
    (multiReduction .maximumf [0] (V w) (mulf iou (broadcastTo (M w) kcol hc)) 0xFF800000#32 hd (.inl rfl) rfl) hs

/-- The flags right of the block, those cleared whose greatest overlap exceeds a half. -/
def tailOp (w : ℕ) (kt sup : FVec Ideal (R w) .f32) : FVec Ideal (R w) .f32 :=
  mulf kt (sitofp .f32 (extui 32 (cmpf .ole sup (broadcast (R w) (Scalar.ofBits .f32 0x3F000000#32 : Ideal .f32))) natLt_1_32))

/-! ### The literals -/

/-- The word of a half denotes a half. -/
theorem half_lit : lit 0x3F000000#32 = ((1 / 2 : ℝ) : EReal) := by
  simp [lit, Ideal.ofBits, Ideal.ieee, -EReal.coe_mul]; norm_num

/-- The word of minus one denotes minus one. -/
theorem neg_one_lit : lit 0xBF800000#32 = ((-1 : ℝ) : EReal) := by
  simp [lit, Ideal.ofBits, Ideal.ieee, -EReal.coe_mul, -EReal.coe_neg]; norm_num

/-- The start of a maximum is the least number. -/
theorem bot_lit : lit 0xFF800000#32 = (⊥ : EReal) := by
  simp [lit, Ideal.ofBits, Ideal.ieee]

/-- A half is not negative. -/
theorem half_nonneg : (0 : EReal) ≤ lit 0x3F000000#32 := by
  rw [half_lit]; exact EReal.coe_nonneg.mpr (by norm_num)

/-- A half is below one. -/
theorem half_lt_one : lit 0x3F000000#32 < (1 : EReal) := by
  rw [half_lit]; exact_mod_cast (by norm_num : (1 / 2 : ℝ) < 1)

/-- The score threshold is at least minus one. -/
theorem neg_one_le_thr : lit 0xBF800000#32 ≤ lit 0x3D4CCCCD#32 := by
  have h : lit 0x3D4CCCCD#32 = ((13421773 / 268435456 : ℝ) : EReal) := by
    simp [lit, Ideal.ofBits, Ideal.ieee, -EReal.coe_mul]; norm_num
  rw [neg_one_lit, h]
  exact EReal.coe_le_coe_iff.mpr (by norm_num)

/-! ### Flags -/

/-- A truth value as the number one or zero. -/
def flag (p : Prop) : EReal := open Classical in if p then 1 else 0

/-- Flags of equivalent statements are equal. -/
theorem flag_congr {p q : Prop} (h : p ↔ q) : flag p = flag q := by rw [propext h]

/-- A flag is at least zero. -/
theorem flag_nonneg (p : Prop) : 0 ≤ flag p := by unfold flag; split <;> simp

/-- The product of two flags is the flag of both. -/
theorem flag_mul (p q : Prop) : flag p * flag q = flag (p ∧ q) := by
  unfold flag; by_cases hp : p <;> by_cases hq : q <;> simp [hp, hq]

/-- One less a flag is the flag of the negation. -/
theorem one_sub_flag (p : Prop) : 1 - flag p = flag (¬ p) := by
  unfold flag
  by_cases hp : p
  · simp only [hp, if_true, not_true, if_false]
    have h : ((1 : ℝ) : EReal) - ((1 : ℝ) : EReal) = ((1 - 1 : ℝ) : EReal) := (EReal.coe_sub 1 1).symm
    simpa using h
  · simp [hp]

/-- A flag exceeds a half exactly when its statement holds. -/
theorem half_lt_flag (p : Prop) : lit 0x3F000000#32 < flag p ↔ p := by
  unfold flag
  by_cases hp : p
  · simp [hp, half_lt_one]
  · simp [hp, half_nonneg]

/-- A comparison's bit, widened and converted, is the flag of what it compares. -/
theorem sitofp_ofBool (p : Prop) [Decidable p] :
    (FloatOps.sitofp .f32 (BitVec.setWidth 32 (BitVec.ofBool (decide p))) : Ideal .f32) = flag p := by
  unfold flag
  by_cases hp : p
  · simp only [hp, decide_true, if_true]
    show (((BitVec.setWidth 32 (BitVec.ofBool true)).toInt : ℝ) : EReal) = 1
    have : (BitVec.setWidth 32 (BitVec.ofBool true)).toInt = 1 := by decide
    rw [this]; norm_num
  · simp only [hp, decide_false, if_false]
    show (((BitVec.setWidth 32 (BitVec.ofBool false)).toInt : ℝ) : EReal) = 0
    have : (BitVec.setWidth 32 (BitVec.ofBool false)).toInt = 0 := by decide
    rw [this]; norm_num

/-- Two small numbers' words are equal exactly when the numbers are. -/
theorem cmpi_eq_small (l k : Fin 512) :
    IntOp.cmpi .eq (BitVec.ofNat 32 l.1) (BitVec.ofNat 32 k.1) = BitVec.ofBool (decide (l = k)) := by
  show BitVec.ofBool (BitVec.ofNat 32 l.1 == BitVec.ofNat 32 k.1) = _
  congr 1
  have hl := l.2
  have hk := k.2
  rw [Bool.eq_iff_iff]
  simp only [beq_iff_eq, decide_eq_true_eq, Fin.ext_iff]
  constructor
  · intro h
    have := congrArg BitVec.toNat h
    simp only [BitVec.toNat_ofNat] at this
    omega
  · intro h; rw [h]

/-- Small numbers' words compare signed as the numbers do. -/
theorem cmpi_sgt_small (l k : Fin 512) :
    IntOp.cmpi .sgt (BitVec.ofNat 32 l.1) (BitVec.ofNat 32 k.1) = BitVec.ofBool (decide (k < l)) := by
  show BitVec.ofBool (BitVec.slt (BitVec.ofNat 32 k.1) (BitVec.ofNat 32 l.1)) = _
  congr 1
  have hl := l.2
  have hk := k.2
  rw [Bool.eq_iff_iff, BitVec.slt_iff_toInt_lt, BitVec.toInt_eq_toNat_of_lt (by simp; omega),
    BitVec.toInt_eq_toNat_of_lt (by simp; omega)]
  simp only [BitVec.toNat_ofNat, decide_eq_true_eq, Fin.lt_def]
  omega

/-- The conjunction of two bits of truth values. -/
theorem andi_ofBool (a b : Bool) : IntOp.andi (BitVec.ofBool a) (BitVec.ofBool b) = BitVec.ofBool (a && b) := by
  cases a <;> cases b <;> rfl

/-- A choice by the bit of a statement. -/
theorem select_ofBool {α : Type} (p : Prop) [Decidable p] (a b : α) :
    Scalar.select (BitVec.ofBool (decide p)) a b = if p then a else b := by
  by_cases hp : p <;> simp [Scalar.select, hp]

/-! ### The operations on flags -/

/-- The greatest entry, at least 0, of a row cleared outside one lane is that lane's entry. -/
theorem fold_lane (k : Fin 512) (f : Fin 512 → EReal) (hf : 0 ≤ f k) :
    Finset.fold max (⊥ : EReal) (fun x => if x = k then f x else 0) Finset.univ = f k := by
  apply le_antisymm
  · rw [Finset.fold_max_le]
    refine ⟨bot_le, fun x _ => ?_⟩
    split
    · next h => rw [h]
    · exact hf
  · rw [Finset.le_fold_max]
    exact Or.inr ⟨k, Finset.mem_univ _, by simp⟩

/-- One trip of the scan on flags: the scanned lane, if set, clears the later lanes that it overlaps by more than a
    half. -/
theorem scanOp_apply (k : Fin 512) (row kb : FVec Ideal (R 512) .f32) (P Q : Fin 512 → Prop)
    (hP : ∀ l, kb (ix2 0 l) = flag (P l)) (hQ : ∀ l, lit 0x3F000000#32 < row (ix2 0 l) ↔ Q l) (l : Fin 512) :
    scanOp (iota Kind.tc S1x512 32 [1] iota_S1x512_d1_w32) (BitVec.ofNat 32 k.1) row kb (ix2 0 l)
      = flag (P l ∧ ¬ (k < l ∧ Q l ∧ P k)) := by
  pointwise [scanOp]
  simp only [cmpi_eq_small, cmpi_sgt_small, andi_ofBool, select_ofBool, ← Bool.decide_and]
  rw [sitofp_ofBool, show Ideal.ofBits FTy.f32 4286578688#32 = ⊥ from bot_lit,
    fold_lane k (fun x => kb (ix2 0 x)) (by simp only [hP]; exact flag_nonneg _), hP, hP, flag_mul, one_sub_flag, flag_mul]
  refine flag_congr (and_congr_right fun _ => not_congr ?_)
  rw [← hQ l]
  tauto

/-- The column of flags is the row of flags. -/
theorem kcolOp_apply (kb : FVec Ideal (R 512) .f32) (r : Fin 512) : kcolOp kb (ix2 r 0) = kb (ix2 0 r) := by
  pointwise [kcolOp]
  simp only [cmpi_eq_small, sitofp_ofBool]
  rw [Finset.sum_eq_single r]
  · simp [flag]
  · intro x _ hx
    simp [flag, Ne.symm hx]
  · simp

/-- The greatest overlap with a kept row exceeds a half exactly when some kept row's does. -/
theorem supOp_le (w : ℕ) (hc : (M 1).Broadcasts (M w)) (hd : (M w).Reduces [0] (V w)) (hs : (V w).ShapeCasts (R w))
    (iou : FVec Ideal (M w) .f32) (kcol : FVec Ideal (M 1) .f32) (P : Fin 512 → Prop)
    (hP : ∀ r, kcol (ix2 r 0) = flag (P r)) (l : Fin w) :
    supOp w hc hd hs iou kcol (ix2 0 l) ≤ lit 0x3F000000#32
      ↔ ∀ r, P r → ¬ lit 0x3F000000#32 < iou (ix2 r l) := by
  have e : supOp w hc hd hs iou kcol (ix2 0 l)
      = (Finset.univ : Finset (Fin 512)).fold max (⊥ : EReal) (fun r => iou (ix2 r l) * flag (P r)) := by
    have hre : Shape.reshapeEquiv hs (ix2 0 l) = (ix1 l : (V w).Idx) := by
      apply Shape.reshapeEquiv_eq_of_vals hs _ _ l.1 l.1 (rowMajor_val1 _)
      · rw [rowMajor_val2 _ w rfl]; show 0 * w + l.1 = l.1; omega
      · rfl
    unfold supOp
    rw [Pointwise.shapeCast_apply, hre]
    refine (multiReduction_maximumf_eq_fold _ _ _ _ _ _).trans ?_
    refine (hd.fold_filter_drop_single _ _ _ _).trans ?_
    have hb : (FloatOps.ofBits .f32 0xFF800000#32 : Ideal .f32) = (⊥ : EReal) := bot_lit
    rw [hb]
    refine Finset.fold_congr fun r _ => ?_
    have hl : hd.lift (ix1 l : (V w).Idx) r = (ix2 (r : Fin 512) l : (M w).Idx) := by
      funext a
      match a with
      | ⟨0, _⟩ => apply Fin.ext; rfl
      | ⟨1, _⟩ => apply Fin.ext; rfl
    show iou (hd.lift (ix1 l) r) * broadcastTo (M w) kcol hc (hd.lift (ix1 l) r) = _
    rw [hl]
    exact congrArg (iou (ix2 (r : Fin 512) l) * ·) ((col_apply w hc kcol r l).trans (hP r))
  rw [e, Finset.fold_max_le]
  simp only [bot_le, true_and, Finset.mem_univ, true_implies, not_lt]
  refine forall_congr' fun r => ?_
  unfold flag
  by_cases hp : P r
  · simp [hp]
  · simp [hp, half_nonneg]

/-- The flags right of the block after it. -/
theorem tailOp_apply (w : ℕ) (kt sup : FVec Ideal (R w) .f32) (P : Fin w → Prop) (l : Fin w)
    (hP : kt (ix2 0 l) = flag (P l)) :
    tailOp w kt sup (ix2 0 l) = flag (P l ∧ sup (ix2 0 l) ≤ lit 0x3F000000#32) := by
  show kt (ix2 0 l) * FloatOps.sitofp .f32 (BitVec.setWidth 32 (BitVec.ofBool (decide (sup (ix2 0 l) ≤ lit 0x3F000000#32)))) = _
  rw [sitofp_ofBool, hP, flag_mul]

end Cert.Proof
-- ==== Proof.Greedy.lean ====
/- Greedy suppression on the natural numbers: the kept positions by well-founded recursion, and the positions still alive
   after a number of suppression steps. One step at a time is what both programs' scans do; a whole block of steps at once
   is what the kernel does to the columns right of a block. -/
module

public import Idealize.ShloMosaic.Lib.Pointwise

@[expose] public section

namespace Cert.Proof.Greedy

/-- A position is kept when it is a candidate and no kept position before it overlaps it. -/
def Kept (start : ℕ → Prop) (ov : ℕ → ℕ → Prop) (j : ℕ) : Prop :=
  start j ∧ ∀ i, (h : i < j) → Kept start ov i → ¬ ov i j
termination_by j

/-- A position is alive after `n` steps when it is a candidate and no kept one of the first `n` that lies before it
    overlaps it. -/
def Alive (start : ℕ → Prop) (ov : ℕ → ℕ → Prop) (n j : ℕ) : Prop :=
  start j ∧ ∀ i, i < n → i < j → Kept start ov i → ¬ ov i j

variable (start : ℕ → Prop) (ov : ℕ → ℕ → Prop)

/-- The recursion, unfolded once. -/
theorem kept_iff (j : ℕ) : Kept start ov j ↔ start j ∧ ∀ i, i < j → Kept start ov i → ¬ ov i j := by
  rw [Kept]

/-- A kept position is a candidate. -/
theorem kept_start {start : ℕ → Prop} {ov : ℕ → ℕ → Prop} {j : ℕ} (h : Kept start ov j) : start j :=
  ((kept_iff start ov j).1 h).1

/-- Before any step the candidates are alive. -/
theorem alive_zero (j : ℕ) : Alive start ov 0 j ↔ start j := by
  simp [Alive]

/-- A position that all its predecessors have been scanned for is alive exactly when it is kept. -/
theorem alive_of_le {n j : ℕ} (h : j ≤ n) : Alive start ov n j ↔ Kept start ov j := by
  rw [kept_iff]
  exact and_congr_right fun _ =>
    ⟨fun H i hi => H i (by omega) hi, fun H i _ hi => H i hi⟩

/-- One step: position `n`, if alive when its turn comes, suppresses the later positions that it overlaps. -/
theorem alive_succ (n j : ℕ) :
    Alive start ov (n + 1) j ↔ Alive start ov n j ∧ ¬ (n < j ∧ ov n j ∧ Alive start ov n n) := by
  rw [alive_of_le start ov (le_refl n)]
  constructor
  · rintro ⟨hs, H⟩
    exact ⟨⟨hs, fun i hi => H i (by omega)⟩, fun ⟨hj, ho, hk⟩ => H n (by omega) hj hk ho⟩
  · rintro ⟨⟨hs, H⟩, hn⟩
    refine ⟨hs, fun i hi hj hk ho => ?_⟩
    rcases Nat.lt_succ_iff_lt_or_eq.1 hi with h | rfl
    · exact H i h hj hk ho
    · exact hn ⟨hj, ho, hk⟩

/-- A block of `w` steps at once, for a position at or past the block's end: no kept position of the block may overlap
    it, and all of the block's positions are settled. -/
theorem alive_block (a w j : ℕ) (hj : a + w ≤ j) :
    Alive start ov (a + w) j ↔ Alive start ov a j ∧ ∀ r, r < w → Alive start ov (a + w) (a + r) → ¬ ov (a + r) j := by
  constructor
  · rintro ⟨hs, H⟩
    refine ⟨⟨hs, fun i hi => H i (by omega)⟩, fun r hr hk => ?_⟩
    exact H (a + r) (by omega) (by omega) ((alive_of_le start ov (by omega)).1 hk)
  · rintro ⟨⟨hs, H⟩, hb⟩
    refine ⟨hs, fun i hi hij hk => ?_⟩
    by_cases h : i < a
    · exact H i h hij hk
    · obtain ⟨r, rfl⟩ := Nat.exists_eq_add_of_le (not_lt.1 h)
      exact hb r (by omega) ((alive_of_le start ov (by omega)).2 hk)

/-- Kept positions depend on the candidates and the overlaps up to the position only. -/
theorem kept_congr {start' : ℕ → Prop} {ov' : ℕ → ℕ → Prop} (N : ℕ) (hs : ∀ j, j < N → (start j ↔ start' j))
    (ho : ∀ i j, i < N → j < N → (ov i j ↔ ov' i j)) : ∀ j, j < N → (Kept start ov j ↔ Kept start' ov' j) := by
  intro j
  induction j using Nat.strong_induction_on with
  | _ j ih =>
    intro hj
    rw [kept_iff, kept_iff start' ov']
    refine and_congr (hs j hj) (forall_congr' fun i => forall_congr' fun hi => ?_)
    exact imp_congr (ih i hi (by omega)) (not_congr (ho i j (by omega) hj))

end Cert.Proof.Greedy
-- ==== Proof.Rows.lean ====
/- The row of flags through the kernel's stores: what it holds while a block is scanned, and after the columns right of the
   block are suppressed. Stated for any list of stores of the shapes that the kernel makes. -/
module

public import proofs.«01_k».proof.Proof.Block
public import proofs.«01_k».proof.Proof.Greedy
public import Idealize.ShloMosaic.Lib.VecWindow

@[expose] public section

set_option maxRecDepth 16384

noncomputable section

namespace Cert.Proof

open Idealize.ShloMosaic Idealize.ShloMosaic.TcCoe
open Cert.KernelIdeal Cert.KernelIdeal.Gen
open Cert.Proof.Greedy
open VecWindow (window put)

/-- The row of flags after `n` steps, the columns right of the block that starts at `a` as they were before the block. -/
def Holds (start : ℕ → Prop) (ov : ℕ → ℕ → Prop) (a n : ℕ) (x : FVec Ideal S1x5120 .f32) : Prop :=
  ∀ j : Fin 5120, x (ix2 0 j) = flag (Alive start ov (if j.1 < a + 512 then n else a) j.1)

variable {start : ℕ → Prop} {ov : ℕ → ℕ → Prop}

/-- A window of the row at an index. -/
theorem window_row (x : FVec Ideal S1x5120 .f32) (b w : ℕ) (inb : ∀ a, (![0, b] : Fin 2 → ℕ) a + (R w).size a ≤ S1x5120.size a)
    (l : Fin w) (h : b + l.1 < 5120) :
    window x ![0, b] (R w).size inb (ix2 0 l : (R w).Idx) = x (ix2 0 ⟨b + l.1, h⟩) := by
  unfold window
  congr 1
  funext a
  match a with
  | ⟨0, _⟩ => apply Fin.ext; rfl
  | ⟨1, _⟩ => apply Fin.ext; show b + 1 * l.1 = b + l.1; omega

/-- Putting a window into the row, read inside the window. -/
theorem put_row_in (x : FVec Ideal S1x5120 .f32) (b w : ℕ) (u : FVec Ideal (R w) .f32) (j : Fin 5120) (l : Fin w)
    (h : j.1 = b + l.1) : put x ![0, b] (R w).size u (ix2 0 j) = u (ix2 0 l) := by
  unfold put
  rw [dif_pos]
  · congr 1
    funext a
    match a with
    | ⟨0, _⟩ => apply Fin.ext; rfl
    | ⟨1, _⟩ => apply Fin.ext; show j.1 - b = l.1; omega
  · intro a
    match a with
    | ⟨0, _⟩ => exact ⟨le_refl 0, Nat.one_pos⟩
    | ⟨1, _⟩ => have := l.2; exact ⟨show b ≤ j.1 by omega, show j.1 < b + w by omega⟩

/-- Putting a window into the row, read outside the window. -/
theorem put_row_out (x : FVec Ideal S1x5120 .f32) (b w : ℕ) (u : FVec Ideal (R w) .f32) (j : Fin 5120)
    (h : j.1 < b ∨ b + w ≤ j.1) : put x ![0, b] (R w).size u (ix2 0 j) = x (ix2 0 j) := by
  unfold put
  rw [dif_neg]
  intro H
  have := H (1 : Fin 2)
  have h1 : b ≤ j.1 := this.1
  have h2 : j.1 < b + w := this.2
  omega

/-- One trip of the scan of the block at `a`, on the row. -/
theorem holds_scan {a k : ℕ} (ha : a + 512 ≤ 5120) (hk : k < 512) (x : FVec Ideal S1x5120 .f32) (hx : Holds start ov a (a + k) x)
    (row : FVec Ideal (R 512) .f32) (hrow : ∀ l : Fin 512, lit 0x3F000000#32 < row (ix2 0 l) ↔ ov (a + k) (a + l.1))
    (inb : ∀ i, (![0, a] : Fin 2 → ℕ) i + (R 512).size i ≤ S1x5120.size i) :
    Holds start ov a (a + (k + 1)) (put x ![0, a] (R 512).size
      (scanOp (iota Kind.tc S1x512 32 [1] iota_S1x512_d1_w32) (BitVec.ofNat 32 k) row (window x ![0, a] (R 512).size inb))) := by
  intro j
  by_cases hj : a ≤ j.1 ∧ j.1 < a + 512
  · have hl : j.1 = a + (⟨j.1 - a, by omega⟩ : Fin 512).1 := by show j.1 = a + (j.1 - a); omega
    rw [put_row_in x a 512 _ j ⟨j.1 - a, by omega⟩ hl, if_pos hj.2]
    rw [scanOp_apply ⟨k, hk⟩ row _ (fun l => Alive start ov (a + k) (a + l.1)) (fun l => ov (a + k) (a + l.1)) _ hrow]
    · refine flag_congr ?_
      rw [← hl, ← add_assoc, alive_succ]
      refine and_congr_right fun _ => not_congr ?_
      refine and_congr ?_ Iff.rfl
      show k < j.1 - a ↔ a + k < j.1
      omega
    · intro l
      have := l.2
      rw [window_row x a 512 inb l (by omega), hx ⟨a + l.1, by omega⟩, if_pos (show a + l.1 < a + 512 by omega)]
  · rw [put_row_out x a 512 _ j (by omega), hx j]
    by_cases h2 : j.1 < a
    · rw [if_pos (by omega), if_pos (by omega)]
      exact flag_congr ((alive_of_le start ov (by omega)).trans (alive_of_le start ov (by omega)).symm)
    · rw [if_neg (by omega), if_neg (by omega)]

/-- The suppression of the columns right of the block at `a`, on the row. -/
theorem holds_tail {a b w : ℕ} (hb : b = a + 512) (hw : b + w = 5120) (x : FVec Ideal S1x5120 .f32) (hx : Holds start ov a b x)
    (hc : (M 1).Broadcasts (M w)) (hd : (M w).Reduces [0] (V w)) (hs : (V w).ShapeCasts (R w)) (hk : (R w).ShapeCasts (R w))
    (iou : FVec Ideal (M w) .f32)
    (hiou : ∀ (r : Fin 512) (l : Fin w), lit 0x3F000000#32 < iou (ix2 r l) ↔ ov (a + r.1) (b + l.1))
    (inb : ∀ i, (![0, a] : Fin 2 → ℕ) i + (R 512).size i ≤ S1x5120.size i)
    (inb' : ∀ i, (![0, b] : Fin 2 → ℕ) i + (R w).size i ≤ S1x5120.size i) :
    Holds start ov b b (put x ![0, b] (R w).size
      (tailOp w (shapeCast (R w) (window x ![0, b] (R w).size inb') hk)
        (supOp w hc hd hs iou (kcolOp (window x ![0, a] (R 512).size inb))))) := by
  intro j
  rw [ite_self]
  by_cases hj : b ≤ j.1
  · have hj5 := j.2
    have hl : j.1 = b + (⟨j.1 - b, by omega⟩ : Fin w).1 := by show j.1 = b + (j.1 - b); omega
    rw [put_row_in x b w _ j ⟨j.1 - b, by omega⟩ hl,
      tailOp_apply w _ _ (fun l => Alive start ov a (b + l.1)) _ (by
        refine (congrFun (shapeCast_self (s := R w) (window x ![0, b] (R w).size inb' : FVec Ideal (R w) .f32) hk) _).trans ?_
        rw [window_row x b w inb' _ (by show b + (j.1 - b) < 5120; omega)]
        exact (hx _).trans (by rw [if_neg (show ¬ b + (j.1 - b) < a + 512 by omega)])),
      supOp_le w hc hd hs iou _ (fun r => Alive start ov b (a + r.1))]
    · refine flag_congr ?_
      show (Alive start ov a (b + (j.1 - b)) ∧ _) ↔ _
      have hA := alive_block start ov a 512 j.1 (by omega)
      rw [← hb] at hA
      rw [← hl, hA]
      refine and_congr_right fun _ => ?_
      constructor
      · intro H r hr hkept hov
        exact H ⟨r, hr⟩ hkept ((hiou ⟨r, hr⟩ _).2 (by rw [← hl]; exact hov))
      · intro H r hkept hov
        exact H r.1 r.2 hkept (by rw [hl]; exact (hiou r _).1 hov)
    · intro r
      have := r.2
      rw [kcolOp_apply, window_row x a 512 inb r (by omega), hx ⟨a + r.1, by omega⟩, if_pos (show a + r.1 < a + 512 by omega)]
  · rw [put_row_out x b w _ j (by omega), hx j, if_pos (by omega)]

/-! ### Lists of stores -/

section Stores

variable {sig : RefSig} {κ κ' : Kind} {sp sp' : Space} (v : View sig κ sp S1x5120 .f32) (f : v.ty.Contents (Elt Ideal))
  (v4 : View sig κ' sp' S512x512 .f32)

/-- The overlaps of a column of boxes with a row of boxes, as loaded. -/
def iouRaw (w : ℕ) (hc : (M 1).Broadcasts (M w)) (hr : (R w).Broadcasts (M w)) (h1 : (M 1).ShapeCasts (M 1))
    (h2 : (R w).ShapeCasts (R w)) (p0 p1 p2 p3 : FVec Ideal (M 1) .f32) (t0 t1 t2 t3 : FVec Ideal (R w) .f32) :
    FVec Ideal (M w) .f32 :=
  iouOp w hc hr (shapeCast (M 1) p0 h1) (shapeCast (M 1) p1 h1) (shapeCast (M 1) p2 h1) (shapeCast (M 1) p3 h1)
    (shapeCast (R w) t0 h2) (shapeCast (R w) t1 h2) (shapeCast (R w) t2 h2) (shapeCast (R w) t3 h2)

/-- The boxes by position: box `j`'s coordinate `c` is column `c` of row `j` of one array and row `c` of column `j` of the
    other, and two boxes overlap when their overlap exceeds a half. -/
structure Boxes (ov : ℕ → ℕ → Prop) (x0 : FVec Ideal S5120x4 .f32) (x1 : FVec Ideal S4x5120 .f32) : Prop where
  transposed : ∀ (j : Fin 5120) (c : Fin 4), x1 (ix2 c j) = x0 (ix2 j c)
  overlap : ∀ i j : Fin 5120, ov i.1 j.1 ↔ lit 0x3F000000#32 <
    iouE (x0 (ix2 i 0)) (x0 (ix2 i 1)) (x0 (ix2 i 2)) (x0 (ix2 i 3)) (x0 (ix2 j 0)) (x0 (ix2 j 1)) (x0 (ix2 j 2)) (x0 (ix2 j 3))

/-- A load of one coordinate of 512 boxes. -/
theorem ld_col (x0 : FVec Ideal S5120x4 .f32) (a c : ℕ) (inb : ∀ i, (![a, c] : Fin 2 → ℕ) i + (M 1).size i ≤ S5120x4.size i)
    (r : Fin 512) (h : a + r.1 < 5120) (hc : c < 4) :
    window x0 ![a, c] (M 1).size inb (ix2 r 0 : (M 1).Idx) = x0 (ix2 ⟨a + r.1, h⟩ ⟨c, hc⟩) := by
  unfold window
  congr 1
  funext i
  match i with
  | ⟨0, _⟩ => apply Fin.ext; show a + 1 * r.1 = a + r.1; omega
  | ⟨1, _⟩ => apply Fin.ext; show c + 1 * 0 = c; omega

/-- A load of one coordinate of `w` boxes of the transposed array. -/
theorem ld_row (x1 : FVec Ideal S4x5120 .f32) (c b w : ℕ) (inb : ∀ i, (![c, b] : Fin 2 → ℕ) i + (R w).size i ≤ S4x5120.size i)
    (l : Fin w) (h : b + l.1 < 5120) (hc : c < 4) :
    window x1 ![c, b] (R w).size inb (ix2 0 l : (R w).Idx) = x1 (ix2 ⟨c, hc⟩ ⟨b + l.1, h⟩) := by
  unfold window
  congr 1
  funext i
  match i with
  | ⟨0, _⟩ => apply Fin.ext; show c + 1 * 0 = c; omega
  | ⟨1, _⟩ => apply Fin.ext; show b + 1 * l.1 = b + l.1; omega

/-- The rows of a block lie in the array of boxes. -/
theorem colInb {a c : ℕ} (ha : a + 512 ≤ 5120) (hc : c < 4) : ∀ i, (![a, c] : Fin 2 → ℕ) i + (M 1).size i ≤ S5120x4.size i :=
  fun i => match i with
  | ⟨0, _⟩ => ha
  | ⟨1, _⟩ => hc

/-- The columns of a block lie in the transposed array of boxes. -/
theorem rowInb {b w c : ℕ} (hw : b + w ≤ 5120) (hc : c < 4) : ∀ i, (![c, b] : Fin 2 → ℕ) i + (R w).size i ≤ S4x5120.size i :=
  fun i => match i with
  | ⟨0, _⟩ => hc
  | ⟨1, _⟩ => hw

/-- The columns of a block lie in the row of flags. -/
theorem flagInb {b w : ℕ} (hw : b + w ≤ 5120) : ∀ i, (![0, b] : Fin 2 → ℕ) i + (R w).size i ≤ S1x5120.size i :=
  fun i => match i with
  | ⟨0, _⟩ => le_refl 1
  | ⟨1, _⟩ => hw

variable {κ0 κ1 : Kind} {sp0 sp1 : Space} (v0 : View sig κ0 sp0 S5120x4 .f32) (f0 : v0.ty.Contents (Elt Ideal))
  (v1 : View sig κ1 sp1 S4x5120 .f32) (f1 : v1.ty.Contents (Elt Ideal))

/-- The overlaps of the block's boxes at `a` with the `w` boxes from `b` on, as loaded from the two arrays. -/
def iouAt (w : ℕ) {a b : ℕ} (ha : a + 512 ≤ 5120) (hw : b + w ≤ 5120) (hc : (M 1).Broadcasts (M w))
    (hr : (R w).Broadcasts (M w)) (h1 : (M 1).ShapeCasts (M 1)) (h2 : (R w).ShapeCasts (R w)) : FVec Ideal (M w) .f32 :=
  iouRaw w hc hr h1 h2
    (v0.readAt (Elt Ideal) (Rect.unit (s := S5120x4) ![a, 0] (M 1).size (colInb ha (by decide))).toLoadRect f0)
    (v0.readAt (Elt Ideal) (Rect.unit (s := S5120x4) ![a, 1] (M 1).size (colInb ha (by decide))).toLoadRect f0)
    (v0.readAt (Elt Ideal) (Rect.unit (s := S5120x4) ![a, 2] (M 1).size (colInb ha (by decide))).toLoadRect f0)
    (v0.readAt (Elt Ideal) (Rect.unit (s := S5120x4) ![a, 3] (M 1).size (colInb ha (by decide))).toLoadRect f0)
    (v1.readAt (Elt Ideal) (Rect.unit (s := S4x5120) ![0, b] (R w).size (rowInb hw (by decide))).toLoadRect f1)
    (v1.readAt (Elt Ideal) (Rect.unit (s := S4x5120) ![1, b] (R w).size (rowInb hw (by decide))).toLoadRect f1)
    (v1.readAt (Elt Ideal) (Rect.unit (s := S4x5120) ![2, b] (R w).size (rowInb hw (by decide))).toLoadRect f1)
    (v1.readAt (Elt Ideal) (Rect.unit (s := S4x5120) ![3, b] (R w).size (rowInb hw (by decide))).toLoadRect f1)

/-- Two boxes overlap when the overlap so computed exceeds a half. -/
theorem iouAt_gt (hB : Boxes ov (v0.read (Elt Ideal) f0) (v1.read (Elt Ideal) f1)) {w a b : ℕ} (ha : a + 512 ≤ 5120)
    (hw : b + w ≤ 5120) (hc : (M 1).Broadcasts (M w)) (hr : (R w).Broadcasts (M w)) (h1 : (M 1).ShapeCasts (M 1))
    (h2 : (R w).ShapeCasts (R w)) (r : Fin 512) (l : Fin w) :
    lit 0x3F000000#32 < iouAt v0 f0 v1 f1 w ha hw hc hr h1 h2 (ix2 r l) ↔ ov (a + r.1) (b + l.1) := by
  have hr' := r.2
  have hl' := l.2
  unfold iouAt iouRaw
  simp only [shapeCast_self]
  rw [iouOp_apply]
  have hcol : ∀ (c : ℕ) (hc4 : c < 4) (i : ∀ i, (![a, c] : Fin 2 → ℕ) i + (M 1).size i ≤ S5120x4.size i),
      (v0.readAt (Elt Ideal) (Rect.unit (s := S5120x4) ![a, c] (M 1).size i).toLoadRect f0) (ix2 r 0 : (M 1).Idx)
        = v0.read (Elt Ideal) f0 (ix2 ⟨a + r.1, by omega⟩ ⟨c, hc4⟩) := fun c hc4 i => by
    rw [View.readAt_unit v0 f0 i rfl i]; exact ld_col _ a c i r _ hc4
  have hrow : ∀ (c : ℕ) (hc4 : c < 4) (i : ∀ i, (![c, b] : Fin 2 → ℕ) i + (R w).size i ≤ S4x5120.size i),
      (v1.readAt (Elt Ideal) (Rect.unit (s := S4x5120) ![c, b] (R w).size i).toLoadRect f1) (ix2 0 l : (R w).Idx)
        = v1.read (Elt Ideal) f1 (ix2 ⟨c, hc4⟩ ⟨b + l.1, by omega⟩) := fun c hc4 i => by
    rw [View.readAt_unit v1 f1 i rfl i]; exact ld_row _ c b w i l _ hc4
  rw [hcol 0 (by decide), hcol 1 (by decide), hcol 2 (by decide), hcol 3 (by decide), hrow 0 (by decide), hrow 1 (by decide),
    hrow 2 (by decide), hrow 3 (by decide)]
  simp only [hB.transposed]
  exact (hB.overlap ⟨a + r.1, by omega⟩ ⟨b + l.1, by omega⟩).symm

/-- The trips' word is the trip's number. -/
theorem iv_unit (k : ℕ) : Scf.iv 0#32 1#32 k = BitVec.ofNat 32 k := by
  simp [Scf.iv]

/-- The stores of a scan's trips, as a function of how many trips ran: each trip stores the block at `a`, from the row of
    overlaps and the block that it loads. -/
def IsScan (a : ℕ) (X4 : v4.ty.Contents (Elt Ideal)) (G : v.ty.Contents (Elt Ideal))
    (pb : ℕ → List (View.Piece (Elt Ideal) S1x5120 .f32)) : Prop :=
  pb 0 = [] ∧ ∀ k (_ : k < 512), ∃ (off4 : Fin 2 → ℕ) (inb4 : ∀ i, off4 i + (R 512).size i ≤ S512x512.size i)
    (inb : ∀ i, (![0, a] : Fin 2 → ℕ) i + (R 512).size i ≤ S1x5120.size i), off4 = ![k, 0] ∧
    pb (k + 1) = (⟨Rect.unit (s := S1x5120) ![0, a] (R 512).size inb,
      scanOp (iota Kind.tc S1x512 32 [1] iota_S1x512_d1_w32) (Scf.iv 0#32 1#32 k)
        (v4.readAt (Elt Ideal) (Rect.unit (s := S512x512) off4 (R 512).size inb4).toLoadRect X4)
        (v.readAt (Elt Ideal) (Rect.unit (s := S1x5120) ![0, a] (R 512).size inb).toLoadRect
          (v.writes (Elt Ideal) G (pb k)))⟩ : View.Piece (Elt Ideal) S1x5120 .f32) :: pb k

/-- The scan of the block at `a`, its 512 trips' stores in front of the earlier ones: the scratch holds the block's overlaps. -/
theorem holds_loop (hB : Boxes ov (v0.read (Elt Ideal) f0) (v1.read (Elt Ideal) f1)) {a n : ℕ} (hn : n = 512)
    (ha : a + 512 ≤ 5120) (hc : (M 1).Broadcasts (M 512)) (hr : (R 512).Broadcasts (M 512)) (h1 : (M 1).ShapeCasts (M 1))
    (h2 : (R 512).ShapeCasts (R 512)) (h3 : (M 512).ShapeCasts (M 512)) (T : List (View.Piece (Elt Ideal) S1x5120 .f32))
    (g : v4.ty.Contents (Elt Ideal)) (inb4 : ∀ i, (![0, 0] : Fin 2 → ℕ) i + S512x512.size i ≤ S512x512.size i)
    (u : FVec Ideal S512x512 .f32) (L4 : List (View.Piece (Elt Ideal) S512x512 .f32))
    (pb : ℕ → List (View.Piece (Elt Ideal) S1x5120 .f32))
    (hs : IsScan v v4 a (v4.writes (Elt Ideal) g
      ((⟨Rect.unit (s := S512x512) ![0, 0] S512x512.size inb4, u⟩ : View.Piece (Elt Ideal) S512x512 .f32) :: L4))
      (v.writes (Elt Ideal) f T) pb)
    (hu : u = shapeCast (M 512) (iouAt v0 f0 v1 f1 512 ha ha hc hr h1 h2) h3)
    (hT : Holds start ov a a (v.read (Elt Ideal) (v.writes (Elt Ideal) f T))) :
    Holds start ov a (a + 512) (v.read (Elt Ideal) (v.writes (Elt Ideal) f (pb n ++ T))) := by
  subst hn
  have H : ∀ k, k ≤ 512 → Holds start ov a (a + k) (v.read (Elt Ideal) (v.writes (Elt Ideal) f (pb k ++ T))) := by
    intro k
    induction k with
    | zero => intro _; rw [hs.1]; exact hT
    | succ k ih =>
      intro hk
      obtain ⟨off4, inb4', inb, ho, e⟩ := hs.2 k (by omega)
      subst ho
      rw [e, List.cons_append, View.read_writes_cons_put v f inb _ _ rfl, ← View.writes_append, iv_unit]
      rw [View.readAt_unit v _ inb rfl inb]
      refine holds_scan ha (by omega) _ (ih (by omega)) _ (fun l => ?_) inb
      rw [View.readAt_unit v4 _ inb4' rfl inb4', View.read_writes_full, hu, shapeCast_self]
      rw [← iouAt_gt v0 f0 v1 f1 hB ha ha hc hr h1 h2 ⟨k, by omega⟩ l]
      have : window (iouAt v0 f0 v1 f1 512 ha ha hc hr h1 h2) ![k, 0] (R 512).size inb4' (ix2 0 l : (R 512).Idx)
          = iouAt v0 f0 v1 f1 512 ha ha hc hr h1 h2 (ix2 ⟨k, by omega⟩ l) := by
        unfold window
        congr 1
        funext i
        match i with
        | ⟨0, _⟩ => apply Fin.ext; show k + 1 * 0 = k; omega
        | ⟨1, _⟩ => apply Fin.ext; show 0 + 1 * l.1 = l.1; omega
      rw [this]
  exact H 512 (le_refl _)

/-- The suppression of the columns right of the block at `a`, its store in front of the earlier ones. -/
theorem holds_store (hB : Boxes ov (v0.read (Elt Ideal) f0) (v1.read (Elt Ideal) f1)) {a b w : ℕ} (hb : b = a + 512)
    (hw : b + w = 5120) (hc : (M 1).Broadcasts (M w)) (hr : (R w).Broadcasts (M w)) (h1 : (M 1).ShapeCasts (M 1))
    (h2 : (R w).ShapeCasts (R w)) (hd : (M w).Reduces [0] (V w)) (hs : (V w).ShapeCasts (R w))
    (L : List (View.Piece (Elt Ideal) S1x5120 .f32)) (inb' : ∀ i, (![0, b] : Fin 2 → ℕ) i + (R w).size i ≤ S1x5120.size i)
    (u : FVec Ideal (R w) .f32)
    (hu : u = tailOp w (shapeCast (R w) (v.readAt (Elt Ideal) (Rect.unit (s := S1x5120) ![0, b] (R w).size inb').toLoadRect
        (v.writes (Elt Ideal) f L)) h2)
      (supOp w hc hd hs (iouAt v0 f0 v1 f1 w (a := a) (by omega) (le_of_eq hw) hc hr h1 h2)
        (kcolOp (v.readAt (Elt Ideal) (Rect.unit (s := S1x5120) ![0, a] (R 512).size (flagInb (by omega))).toLoadRect
          (v.writes (Elt Ideal) f L)))))
    (hL : Holds start ov a (a + 512) (v.read (Elt Ideal) (v.writes (Elt Ideal) f L))) :
    Holds start ov b b (v.read (Elt Ideal) (v.writes (Elt Ideal) f
      ((⟨Rect.unit (s := S1x5120) ![0, b] (R w).size inb', u⟩ : View.Piece (Elt Ideal) S1x5120 .f32) :: L))) := by
  have ha : a + 512 ≤ 5120 := by omega
  have inb : ∀ i, (![0, a] : Fin 2 → ℕ) i + (R 512).size i ≤ S1x5120.size i := flagInb ha
  rw [View.read_writes_cons_put v f inb' _ _ rfl, hu, View.readAt_unit v _ inb' rfl inb', View.readAt_unit v _ inb rfl inb]
  exact holds_tail hb hw _ (hb ▸ hL) hc hd hs h2 _ (iouAt_gt v0 f0 v1 f1 hB ha (le_of_eq hw) hc hr h1 h2) inb inb'

end Stores

end Cert.Proof
-- ==== Proof.Chain.lean ====
/- The kernel's row of flags at the end of its stores: block by block, the scan of the block and the suppression of the
   columns right of it. -/
module

public import proofs.«01_k».proof.Proof.Rows
public import proofs.«01_k».proof.Proof.Gen.KernelIdeal.Frame

@[expose] public section

set_option maxRecDepth 16384

noncomputable section

namespace Cert.Proof

open Idealize.ShloMosaic Idealize.ShloMosaic.TcCoe
open Cert.KernelIdeal Cert.KernelIdeal.Gen
open Cert.Proof.Greedy

variable {start : ℕ → Prop} {ov : ℕ → ℕ → Prop}

section Scans

variable (c : Dev nD) (arg0 : Memref sig .tc .vmem S5120x4 .f32) (harg0 : arg0.IsWhole)
  (arg1 : Memref sig .tc .vmem S4x5120 .f32) (harg1 : arg1.IsWhole) (arg2 : Memref sig .tc .vmem S1x5120 .f32)
  (harg2 : arg2.IsWhole) (arg3 : Memref sig .tc .vmem S1x5120 .f32) (harg3 : arg3.IsWhole)
  (arg4 : Memref sig .tc .vmem S512x512 .f32) (harg4 : arg4.IsWhole)

/-- The stores of loop 1 are a scan of the block at 0. -/
theorem scan_t1 x0 x1 x2 x3 x4 x5 x6 x7 X4 G : IsScan arg3.view arg4.view 0 X4 G
    (pb_k0_t1 (F := Ideal) Variants.none c none arg0 harg0 arg1 harg1 arg2 harg2 arg3 harg3 arg4 harg4
      kernelRun0_A.sl.v7 x0 x1 x2 x3 x4 x5 x6 x7 X4 G) :=
  ⟨rfl, fun k hk => ⟨_, _, _, k0_off1_eq ⟨k, hk⟩,
    (pb_k0_t1_succ _ _ _ _ _ _ _ _ _ _ _ _ _ _ _ _ _ _ _ _ _ _ _ _ ⟨k, hk⟩).trans (by unfold tripL_k0_t1 trip_k0_t1; rfl)⟩⟩

/-- The stores of loop 2 are a scan of the block at 512. -/
theorem scan_t2 x0 x1 x2 x3 x4 x5 x6 X4 G : IsScan arg3.view arg4.view 512 X4 G
    (pb_k0_t2 (F := Ideal) Variants.none c none arg0 harg0 arg1 harg1 arg2 harg2 arg3 harg3 arg4 harg4
      kernelRun0_A.sl.v7 x0 x1 x2 x3 x4 x5 x6 X4 G) :=
  ⟨rfl, fun k hk => ⟨_, _, _, k0_off2_eq ⟨k, hk⟩,
    (pb_k0_t2_succ _ _ _ _ _ _ _ _ _ _ _ _ _ _ _ _ _ _ _ _ _ _ _ ⟨k, hk⟩).trans (by unfold tripL_k0_t2 trip_k0_t2; rfl)⟩⟩

/-- The stores of loop 3 are a scan of the block at 1024. -/
theorem scan_t3 x0 x1 x2 x3 x4 X4 G : IsScan arg3.view arg4.view 1024 X4 G
    (pb_k0_t3 (F := Ideal) Variants.none c none arg0 harg0 arg1 harg1 arg2 harg2 arg3 harg3 arg4 harg4
      kernelRun0_A.sl.v7 x0 x1 x2 x3 x4 X4 G) :=
  ⟨rfl, fun k hk => ⟨_, _, _, k0_off3_eq ⟨k, hk⟩,
    (pb_k0_t3_succ _ _ _ _ _ _ _ _ _ _ _ _ _ _ _ _ _ _ _ _ _ ⟨k, hk⟩).trans (by unfold tripL_k0_t3 trip_k0_t3; rfl)⟩⟩

/-- The stores of loop 4 are a scan of the block at 1536. -/
theorem scan_t4 x0 x1 x2 x3 X4 G : IsScan arg3.view arg4.view 1536 X4 G
    (pb_k0_t4 (F := Ideal) Variants.none c none arg0 harg0 arg1 harg1 arg2 harg2 arg3 harg3 arg4 harg4
      kernelRun0_A.sl.v7 x0 x1 x2 x3 X4 G) :=
  ⟨rfl, fun k hk => ⟨_, _, _, k0_off4_eq ⟨k, hk⟩,
    (pb_k0_t4_succ _ _ _ _ _ _ _ _ _ _ _ _ _ _ _ _ _ _ _ _ ⟨k, hk⟩).trans (by unfold tripL_k0_t4 trip_k0_t4; rfl)⟩⟩

/-- The stores of loop 5 are a scan of the block at 2048. -/
theorem scan_t5 x0 x1 X4 G : IsScan arg3.view arg4.view 2048 X4 G
    (pb_k0_t5 (F := Ideal) Variants.none c none arg0 harg0 arg1 harg1 arg2 harg2 arg3 harg3 arg4 harg4
      kernelRun0_A.sl.v7 x0 x1 X4 G) :=
  ⟨rfl, fun k hk => ⟨_, _, _, k0_off5_eq ⟨k, hk⟩,
    (pb_k0_t5_succ _ _ _ _ _ _ _ _ _ _ _ _ _ _ _ _ _ _ ⟨k, hk⟩).trans (by unfold tripL_k0_t5 trip_k0_t5; rfl)⟩⟩

/-- The stores of loop 6 are a scan of the block at 2560. -/
theorem scan_t6 x0 x1 X4 G : IsScan arg3.view arg4.view 2560 X4 G
    (pb_k0_t6 (F := Ideal) Variants.none c none arg0 harg0 arg1 harg1 arg2 harg2 arg3 harg3 arg4 harg4
      kernelRun0_A.sl.v7 x0 x1 X4 G) :=
  ⟨rfl, fun k hk => ⟨_, _, _, k0_off6_eq ⟨k, hk⟩,
    (pb_k0_t6_succ _ _ _ _ _ _ _ _ _ _ _ _ _ _ _ _ _ _ ⟨k, hk⟩).trans (by unfold tripL_k0_t6 trip_k0_t6; rfl)⟩⟩

/-- The stores of loop 7 are a scan of the block at 3072. -/
theorem scan_t7 x0 x1 X4 G : IsScan arg3.view arg4.view 3072 X4 G
    (pb_k0_t7 (F := Ideal) Variants.none c none arg0 harg0 arg1 harg1 arg2 harg2 arg3 harg3 arg4 harg4
      kernelRun0_A.sl.v7 x0 x1 X4 G) :=
  ⟨rfl, fun k hk => ⟨_, _, _, k0_off7_eq ⟨k, hk⟩,
    (pb_k0_t7_succ _ _ _ _ _ _ _ _ _ _ _ _ _ _ _ _ _ _ ⟨k, hk⟩).trans (by unfold tripL_k0_t7 trip_k0_t7; rfl)⟩⟩

/-- The stores of loop 8 are a scan of the block at 3584. -/
theorem scan_t8 X4 G : IsScan arg3.view arg4.view 3584 X4 G
    (pb_k0_t8 (F := Ideal) Variants.none c none arg0 harg0 arg1 harg1 arg2 harg2 arg3 harg3 arg4 harg4
      kernelRun0_A.sl.v7 0#32 X4 G) :=
  ⟨rfl, fun k hk => ⟨_, _, _, k0_off8_eq ⟨k, hk⟩,
    (pb_k0_t8_succ _ _ _ _ _ _ _ _ _ _ _ _ _ _ _ _ _ ⟨k, hk⟩).trans (by unfold tripL_k0_t8 trip_k0_t8; rfl)⟩⟩

/-- The stores of loop 9 are a scan of the block at 4096. -/
theorem scan_t9 x0 x1 x2 x3 x4 x5 X4 G : IsScan arg3.view arg4.view 4096 X4 G
    (pb_k0_t9 (F := Ideal) Variants.none c none arg0 harg0 arg1 harg1 arg2 harg2 arg3 harg3 arg4 harg4
      kernelRun0_A.sl.v7 x0 x1 x2 x3 x4 x5 X4 G) :=
  ⟨rfl, fun k hk => ⟨_, _, _, k0_off9_eq ⟨k, hk⟩,
    (pb_k0_t9_succ _ _ _ _ _ _ _ _ _ _ _ _ _ _ _ _ _ _ _ _ _ _ ⟨k, hk⟩).trans (by unfold tripL_k0_t9 trip_k0_t9; rfl)⟩⟩

/-- The stores of loop 10 are a scan of the block at 4608. -/
theorem scan_t10 X4 G : IsScan arg3.view arg4.view 4608 X4 G
    (pb_k0_t10 (F := Ideal) Variants.none c none arg0 harg0 arg1 harg1 arg2 harg2 arg3 harg3 arg4 harg4
      kernelRun0_A.sl.v7 X4 G) :=
  ⟨rfl, fun k hk => ⟨_, _, _, k0_off10_eq ⟨k, hk⟩,
    (pb_k0_t10_succ _ _ _ _ _ _ _ _ _ _ _ _ _ _ _ _ ⟨k, hk⟩).trans (by unfold tripL_k0_t10 trip_k0_t10; rfl)⟩⟩

end Scans

/-- The row of flags at the start: a box is up when its score exceeds the threshold. -/
theorem pay3_apply (x : FVec Ideal S1x5120 .f32) (j : Fin 5120) :
    k0_pay3 (F := Ideal) x (ix2 0 j) = flag (lit 0x3D4CCCCD#32 < x (ix2 0 j)) := by
  pointwise [k0_pay3]
  exact sitofp_ofBool _

set_option maxHeartbeats 8000000 in
/-- At the end of the kernel's stores every flag says whether its box is kept. -/
theorem chain (c : Dev nD) (arg0 : Memref sig .tc .vmem S5120x4 .f32) (harg0 : arg0.IsWhole)
    (arg1 : Memref sig .tc .vmem S4x5120 .f32) (harg1 : arg1.IsWhole) (arg2 : Memref sig .tc .vmem S1x5120 .f32)
    (harg2 : arg2.IsWhole) (arg3 : Memref sig .tc .vmem S1x5120 .f32) (harg3 : arg3.IsWhole)
    (arg4 : Memref sig .tc .vmem S512x512 .f32) (harg4 : arg4.IsWhole) (x0 : Vec Ideal S5120x4 .f32)
    (x1 : Vec Ideal S4x5120 .f32) (x2 : Vec Ideal S1x5120 .f32) (hB : Boxes ov x0 x1)
    (hS : ∀ j : Fin 5120, start j.1 ↔ lit 0x3D4CCCCD#32 < x2 (ix2 0 j)) :
    Holds start ov 4608 (4608 + 512) (arg3.view.read (Elt Ideal) (arg3.view.writes (Elt Ideal) arg3.view.junk
      (kernelRun0_A c arg0 harg0 arg1 harg1 arg2 harg2 arg3 harg3 arg4 harg4 x0 x1 x2).1)) := by
  have hB' : Boxes ov (arg0.view.read (Elt Ideal) (harg0.unread x0)) (arg1.view.read (Elt Ideal) (harg1.unread x1)) := by
    rw [harg0.read_unread, harg1.read_unread]; exact hB
  unfold kernelRun0_A
  dsimp only
  refine holds_loop _ _ _ _ _ _ _ hB' (by decide) (by decide) _ _ _ _ _ _ _ _ _ _ _
    (scan_t10 c arg0 harg0 arg1 harg1 arg2 harg2 arg3 harg3 arg4 harg4 _ _) rfl ?_
  refine holds_store _ _ _ _ _ _ hB' (a := 4096) (b := 4608) (w := 512) (by decide) (by decide) _ _ _ _ _ _ _ _ _ rfl ?_
  refine holds_loop _ _ _ _ _ _ _ hB' (by decide) (by decide) _ _ _ _ _ _ _ _ _ _ _
    (scan_t9 c arg0 harg0 arg1 harg1 arg2 harg2 arg3 harg3 arg4 harg4 _ _ _ _ _ _ _ _) rfl ?_
  refine holds_store _ _ _ _ _ _ hB' (a := 3584) (b := 4096) (w := 1024) (by decide) (by decide) _ _ _ _ _ _ _ _ _ rfl ?_
  refine holds_loop _ _ _ _ _ _ _ hB' (by decide) (by decide) _ _ _ _ _ _ _ _ _ _ _
    (scan_t8 c arg0 harg0 arg1 harg1 arg2 harg2 arg3 harg3 arg4 harg4 _ _) rfl ?_
  refine holds_store _ _ _ _ _ _ hB' (a := 3072) (b := 3584) (w := 1536) (by decide) (by decide) _ _ _ _ _ _ _ _ _ rfl ?_
  refine holds_loop _ _ _ _ _ _ _ hB' (by decide) (by decide) _ _ _ _ _ _ _ _ _ _ _
    (scan_t7 c arg0 harg0 arg1 harg1 arg2 harg2 arg3 harg3 arg4 harg4 _ _ _ _) rfl ?_
  refine holds_store _ _ _ _ _ _ hB' (a := 2560) (b := 3072) (w := 2048) (by decide) (by decide) _ _ _ _ _ _ _ _ _ rfl ?_
  refine holds_loop _ _ _ _ _ _ _ hB' (by decide) (by decide) _ _ _ _ _ _ _ _ _ _ _
    (scan_t6 c arg0 harg0 arg1 harg1 arg2 harg2 arg3 harg3 arg4 harg4 _ _ _ _) rfl ?_
  refine holds_store _ _ _ _ _ _ hB' (a := 2048) (b := 2560) (w := 2560) (by decide) (by decide) _ _ _ _ _ _ _ _ _ rfl ?_
  refine holds_loop _ _ _ _ _ _ _ hB' (by decide) (by decide) _ _ _ _ _ _ _ _ _ _ _
    (scan_t5 c arg0 harg0 arg1 harg1 arg2 harg2 arg3 harg3 arg4 harg4 _ _ _ _) rfl ?_
  refine holds_store _ _ _ _ _ _ hB' (a := 1536) (b := 2048) (w := 3072) (by decide) (by decide) _ _ _ _ _ _ _ _ _ rfl ?_
  refine holds_loop _ _ _ _ _ _ _ hB' (by decide) (by decide) _ _ _ _ _ _ _ _ _ _ _
    (scan_t4 c arg0 harg0 arg1 harg1 arg2 harg2 arg3 harg3 arg4 harg4 _ _ _ _ _ _) rfl ?_
  refine holds_store _ _ _ _ _ _ hB' (a := 1024) (b := 1536) (w := 3584) (by decide) (by decide) _ _ _ _ _ _ _ _ _ rfl ?_
  refine holds_loop _ _ _ _ _ _ _ hB' (by decide) (by decide) _ _ _ _ _ _ _ _ _ _ _
    (scan_t3 c arg0 harg0 arg1 harg1 arg2 harg2 arg3 harg3 arg4 harg4 _ _ _ _ _ _ _) rfl ?_
  refine holds_store _ _ _ _ _ _ hB' (a := 512) (b := 1024) (w := 4096) (by decide) (by decide) _ _ _ _ _ _ _ _ _ rfl ?_
  refine holds_loop _ _ _ _ _ _ _ hB' (by decide) (by decide) _ _ _ _ _ _ _ _ _ _ _
    (scan_t2 c arg0 harg0 arg1 harg1 arg2 harg2 arg3 harg3 arg4 harg4 _ _ _ _ _ _ _ _ _) rfl ?_
  refine holds_store _ _ _ _ _ _ hB' (a := 0) (b := 512) (w := 4608) (by decide) (by decide) _ _ _ _ _ _ _ _ _ rfl ?_
  refine holds_loop _ _ _ _ _ _ _ hB' (by decide) (by decide) _ _ _ _ _ _ _ _ _ _ _
    (scan_t1 c arg0 harg0 arg1 harg1 arg2 harg2 arg3 harg3 arg4 harg4 _ _ _ _ _ _ _ _ _ _) rfl ?_
  intro j
  rw [ite_self]
  have e : arg3.view.read (Elt Ideal) (arg3.view.writes (Elt Ideal) arg3.view.junk (kernelRun0_A.sl.H3_1 c arg2 harg2 x2))
      = k0_pay3 (F := Ideal) x2 := by
    unfold kernelRun0_A.sl.H3_1
    rw [View.read_writes_full]
    refine congrArg (k0_pay3 (F := Ideal)) ?_
    exact (View.readAt_full arg2.view _ _).trans (harg2.read_unread x2)
  rw [e, pay3_apply]
  exact flag_congr ((hS j).symm.trans (alive_zero start ov j.1).symm)

/-- At the end of the kernel's stores the row holds, for every box, whether it is kept. -/
theorem row_kept (c : Dev nD) (arg0 : Memref sig .tc .vmem S5120x4 .f32) (harg0 : arg0.IsWhole)
    (arg1 : Memref sig .tc .vmem S4x5120 .f32) (harg1 : arg1.IsWhole) (arg2 : Memref sig .tc .vmem S1x5120 .f32)
    (harg2 : arg2.IsWhole) (arg3 : Memref sig .tc .vmem S1x5120 .f32) (harg3 : arg3.IsWhole)
    (arg4 : Memref sig .tc .vmem S512x512 .f32) (harg4 : arg4.IsWhole) (x0 : Vec Ideal S5120x4 .f32)
    (x1 : Vec Ideal S4x5120 .f32) (x2 : Vec Ideal S1x5120 .f32) (hB : Boxes ov x0 x1)
    (hS : ∀ j : Fin 5120, start j.1 ↔ lit 0x3D4CCCCD#32 < x2 (ix2 0 j)) (j : Fin 5120) :
    out0_A_3 (F := Ideal) c arg0 harg0 arg1 harg1 arg2 harg2 arg3 harg3 arg4 harg4 x0 x1 x2 (ix2 0 j) = flag (Kept start ov j.1) := by
  have h := chain c arg0 harg0 arg1 harg1 arg2 harg2 arg3 harg3 arg4 harg4 x0 x1 x2 hB hS j
  have e : out0_A_3 (F := Ideal) c arg0 harg0 arg1 harg1 arg2 harg2 arg3 harg3 arg4 harg4 x0 x1 x2
      = arg3.view.read (Elt Ideal) (arg3.view.writes (Elt Ideal) arg3.view.junk
        (kernelRun0_A c arg0 harg0 arg1 harg1 arg2 harg2 arg3 harg3 arg4 harg4 x0 x1 x2).1) := by
    unfold out0_A_3
    exact View.read_writes_of_cover _ _ _ _ _ (cover0_A_3 c arg0 harg0 arg1 harg1 arg2 harg2 arg3 harg3 arg4 harg4 x0 x1 x2)
  have hj := j.2
  rw [e, h, if_pos (show j.1 < 4608 + 512 from hj)]
  exact flag_congr (alive_of_le start ov (by omega))

end Cert.Proof
-- ==== Proof.Region.lean ====
module
public import proofs.«01_k».proof.Proof.Chain
public import proofs.«01_k».proof.Proof.Gen.KernelIdeal.Frame

/-! # What the kernel's region leaves in its result array

The grid has one point and every window is its whole array, so the body reads the three operand
arrays as they stand and its one result block is the whole row of flags. -/

@[expose] public section
set_option maxRecDepth 16384
noncomputable section

namespace Cert.Proof.Region

open Idealize.ShloMosaic Idealize.ShloMosaic.TcCoe
open Idealize.SL Idealize.SL.Sem
open Cert.KernelIdeal Cert.KernelIdeal.Gen

variable (m : (ℓ : Loc nD τ sig) → Buf (Elt Ideal) ℓ)

/-- The one block of the boxes window is the array of boxes. -/
theorem block_boxes (c : Dev nD) (t : Fin cfg0.N) :
    (iblk m c 0 t : FVec Ideal S5120x4 .f32) = Gen.V m c main_v16 := by
  funext y
  refine congrArg (Gen.V m c main_v16) (funext fun a => Fin.ext ?_)
  show 0 * _ + 1 * (y a).1 = (y a).1
  omega

/-- The one block of the transposed boxes window is that array. -/
theorem block_columns (c : Dev nD) (t : Fin cfg0.N) :
    (iblk m c 1 t : FVec Ideal S4x5120 .f32) = Gen.V m c main_v18 := by
  funext y
  refine congrArg (Gen.V m c main_v18) (funext fun a => Fin.ext ?_)
  show 0 * _ + 1 * (y a).1 = (y a).1
  omega

/-- The one block of the scores window is the row of scores. -/
theorem block_scores (c : Dev nD) (t : Fin cfg0.N) :
    (iblk m c 2 t : FVec Ideal S1x5120 .f32) = Gen.V m c main_v19 := by
  funext y
  refine congrArg (Gen.V m c main_v19) (funext fun a => Fin.ext ?_)
  show 0 * _ + 1 * (y a).1 = (y a).1
  omega

/-- The row of flags that a starting row and an overlap relation determine. -/
def flags (start : ℕ → Prop) (ov : ℕ → ℕ → Prop) : FVec Ideal S1x5120 .f32 :=
  fun i => flag (Greedy.Kept start ov (i 1).1)

/-- The body's result block is the row of flags. -/
theorem out_flags {start : ℕ → Prop} {ov : ℕ → ℕ → Prop} (c : Dev nD) (t : Fin cfg0.N)
    (hB : Boxes ov (Gen.V m c main_v16) (Gen.V m c main_v18))
    (hS : ∀ j : Fin 5120, start j.1 ↔ lit 0x3D4CCCCD#32 < (Gen.V m c main_v19 : FVec Ideal S1x5120 .f32) (ix2 0 j)) :
    (outsAt0 m c t : FVec Ideal S1x5120 .f32) = flags start ov := by
  funext i
  obtain ⟨a, b, rfl⟩ : ∃ a b, i = ix2 a b := ⟨i 0, i 1, funext fun k => by fin_cases k <;> rfl⟩
  obtain rfl : a = 0 := Subsingleton.elim _ _
  have h := row_kept (start := start) (ov := ov) c (ms0_0 t) (hs0_0 t) (ms0_1 t) (hs0_1 t) (ms0_2 t) (hs0_2 t)
    (ms0_3 t) (hs0_3 t) scM0_0 (Memref.isWhole_whole _) (Gen.V m c main_v16) (Gen.V m c main_v18) (Gen.V m c main_v19) hB hS b
  unfold outsAt0
  rw [block_boxes, block_columns, block_scores]
  exact h

/-- What the one point writes back is the row of flags read through its block. -/
theorem flushed_flags {start : ℕ → Prop} {ov : ℕ → ℕ → Prop} (c : Dev nD) (t : Fin cfg0.N)
    (hB : Boxes ov (Gen.V m c main_v16) (Gen.V m c main_v18))
    (hS : ∀ j : Fin 5120, start j.1 ↔ lit 0x3D4CCCCD#32 < (Gen.V m c main_v19 : FVec Ideal S1x5120 .f32) (ix2 0 j)) :
    (dats m 0 c).flushed 3 t = (win0_3.blk t).view.read (Elt Ideal) (flags start ov) := by
  show (cfg0.win 3).cut (grid0.coords t) ((dats m 0 c).after 3 t) = _
  rw [after0_3, out_flags m c t hB hS]
  funext y
  refine congrArg (flags start ov) (funext fun a => Fin.ext ?_)
  show (y a).1 = 0 * _ + 1 * (y a).1
  omega

/-- Every index of the result array lies in the one block. -/
theorem cover (i : S1x5120.Idx) :
    ∃ t : Fin cfg0.N, (cfg0.win 3).flush t = true ∧ i ∈ ((cfg0.win 3).blk t).view.set := by
  have hN : cfg0.N = 1 := N_0
  have h0 : 0 < cfg0.N := by omega
  refine ⟨⟨0, h0⟩, flush0_3 _, ?_⟩
  show i ∈ ((View.whole main_v20).slice (win0_3.rect (⟨0, h0⟩ : Fin grid0.N))).set
  rw [View.set_slice_whole, Rect.mem_set_unit]
  intro a
  have h := (i a).isLt
  show 0 * _ ≤ (i a).1 ∧ (i a).1 < 0 * _ + S1x5120.size a
  exact ⟨by omega, by rw [Nat.zero_mul, Nat.zero_add]; exact h⟩

/-- So the result array ends holding the row of flags. -/
theorem final_flags {start : ℕ → Prop} {ov : ℕ → ℕ → Prop} (c : Dev nD)
    (hB : Boxes ov (Gen.V m c main_v16) (Gen.V m c main_v18))
    (hS : ∀ j : Fin 5120, start j.1 ↔ lit 0x3D4CCCCD#32 < (Gen.V m c main_v19 : FVec Ideal S1x5120 .f32) (ix2 0 j)) :
    (dats m 0 c).arrAt 3 cfg0.N = flags start ov :=
  (dats m 0 c).arrAt_eq_of_cover 3 (flags start ov) (fun t _ => flushed_flags m c t hB hS) cover

end Cert.Proof.Region
-- ==== Proof.Meaning.lean ====
module
public import proofs.«01_k».proof.Proof.Gen.KernelIdeal.Frame
public import proofs.«01_k».proof.Proof.Block
public import Idealize.ShloMosaic.Lib.StableHlo.RunRead

/-! # The functions that the two programs compute around their suppression

Both programs first order the boxes by falling score and last pick the greatest masked scores; what
each does there is named here as functions of arrays, and the kernel's program is read as them. -/

@[expose] public section
set_option maxRecDepth 16384
noncomputable section

namespace Cert.Proof.Meaning

open Idealize.ShloMosaic Idealize.ShloMosaic.TcCoe
open Idealize.SL Idealize.SL.Sem
open Cert.KernelIdeal Cert.KernelIdeal.Gen

/-- The positions of the boxes by falling score. -/
def order (a1 : FVec Ideal S5000 .f32) : IVec S5000 32 :=
  (Host.sort2 S5000 0 comparator_f32_i32_d0 (Host.negf a1) (iotaInDim S5000 32 0)).2

/-- Positions as a column of row numbers, a negative one counted from the end. -/
def orderColumn (p : IVec S5000 32) : IVec S5000x1 32 :=
  broadcastInDim S5000x1 ![0] bcast_S5000_S5000x1_0
    (select (cmpi .slt p (broadcastInDim S5000 ![] bcast_S_S5000 (constantI S_ 32 0#32)))
      (addi p (broadcastInDim S5000 ![] bcast_S_S5000 (constantI S_ 32 5000#32))) p)

/-- The boxes by falling score. -/
def boxes (a0 : FVec Ideal S5000x4 .f32) (a1 : FVec Ideal S5000 .f32) : FVec Ideal S5000x4 .f32 :=
  Host.gather gather_S5000x4_S5000x1_S5000x4_1_0_n_n_0_1_14 a0 (orderColumn (order a1))

/-- The falling scores. -/
def scores (a1 : FVec Ideal S5000 .f32) : FVec Ideal S5000 .f32 :=
  Host.gather gather_S5000_S5000x1_S5000_n_0_n_n_0_1_1 a1 (orderColumn (order a1))

/-- The boxes with 120 boxes of zeros after them. -/
def padBoxes (b : FVec Ideal S5000x4 .f32) : FVec Ideal S5120x4 .f32 :=
  pad S5120x4 ![0, 0] ![120, 0] ![0, 0] b (sitofp .f32 (constantI S_ 32 0#32)) pads_S5000x4_S5120x4_01200_000 h_S_

/-- The scores with 120 scores of minus one after them. -/
def padScores (s : FVec Ideal S5000 .f32) : FVec Ideal S5120 .f32 :=
  pad S5120 ![0] ![120] ![0] s (constant S_ .f32 0xBF800000#32) pads_S5000_S5120_01200 h_S_

/-- The padded scores of the boxes that a row of flags keeps, minus one at the others. -/
def masked (k : FVec Ideal S1x5120 .f32) (s : FVec Ideal S5120 .f32) : FVec Ideal S5120 .f32 :=
  select (cmpf .ogt (shapeCast S5120 k shapeCasts_S1x5120_S5120) (broadcastInDim S5120 ![] bcast_S_S5120 (constant S_ .f32 0x3F000000#32)))
    s (broadcastInDim S5120 ![] bcast_S_S5120 (constant S_ .f32 0xBF800000#32))

/-- The masked scores' greatest values -/
def top (x : FVec Ideal S5120 .f32) : FVec Ideal S300 .f32 :=
  (Host.topK S300 0 (FloatOps.cmpfTotal .gt) x sliceFits_S5120_S300).1

/-- and their positions. -/
def topAt (x : FVec Ideal S5120 .f32) : IVec S300 32 :=
  (Host.topK S300 0 (FloatOps.cmpfTotal .gt) x sliceFits_S5120_S300).2

/-- Which of the greatest values pass the score threshold. -/
def valid (v : FVec Ideal S300 .f32) : IVec S300 1 :=
  cmpf .ogt v (broadcastInDim S300 ![] bcast_S_S300 (constant S_ .f32 0x3D4CCCCD#32))

/-- The first result: the passing values, zero at the others. -/
def outScores (v : FVec Ideal S300 .f32) : FVec Ideal S300 .f32 :=
  select (valid v) v (broadcastInDim S300 ![] bcast_S_S300 (constant S_ .f32 0x00000000#32))

/-- The second result: class zero at the passing values, minus one at the others. -/
def outClasses (v : FVec Ideal S300 .f32) : IVec S300 32 :=
  select (valid v) (broadcastInDim S300 ![] bcast_S_S300 (constantI S_ 32 0#32))
    (broadcastInDim S300 ![] bcast_S_S300 (constantI S_ 32 4294967295#32))

/-- The third result: the boxes `g` of the passing values, zeros at the others. -/
def outBoxes (v : FVec Ideal S300 .f32) (g : FVec Ideal S300x4 .f32) : FVec Ideal S300x4 .f32 :=
  mulf g (broadcastInDim S300x4 ![0, 1] bcast_S300x1_S300x4_0_1
    (uitofp .f32 (broadcastInDim S300x1 ![0] bcast_S300_S300x1_0 (valid v))))

/-- The picked positions as a column of row numbers, a negative one counted from the end of `n` rows. -/
def pickColumn (n : BitVec 32) (p : IVec S300 32) : IVec S300x1 32 :=
  broadcastInDim S300x1 ![0] bcast_S300_S300x1_0
    (select (cmpi .slt p (broadcastInDim S300 ![] bcast_S_S300 (constantI S_ 32 0#32)))
      (addi p (broadcastInDim S300 ![] bcast_S_S300 (constantI S_ 32 n))) p)

/-- The padded boxes at the picked positions. -/
def pick (b : FVec Ideal S5120x4 .f32) (p : IVec S300 32) : FVec Ideal S300x4 .f32 :=
  Host.gather gather_S5120x4_S300x1_S300x4_1_0_n_n_0_1_14 b (pickColumn 5120#32 p)

variable (m : (ℓ : Loc nD τ sig) → Buf (Elt Ideal) ℓ)

/-- The region's first operand: the padded boxes. -/
theorem read_boxes (c : Dev nD) :
    Gen.V m c main_v16 = padBoxes (boxes (m ((c : Thread nD τ).loc main_arg0)) (m ((c : Thread nD τ).loc main_arg1))) := by
  unfold Gen.V Gen.V0
  simp only [hostOps0, hostOps0_1, hostOps0_2, hostOps0_3, hostOps0_4, hostOps0_5, hostOps0_6, List.flatten_cons,
    List.flatten_nil, List.append_nil, List.cons_append, List.nil_append]
  after_reads_simp
  rfl

/-- The padded scores. -/
theorem read_scores (c : Dev nD) :
    Gen.V m c main_v17 = padScores (scores (m ((c : Thread nD τ).loc main_arg1))) := by
  unfold Gen.V Gen.V0
  simp only [hostOps0, hostOps0_1, hostOps0_2, hostOps0_3, hostOps0_4, hostOps0_5, hostOps0_6, List.flatten_cons,
    List.flatten_nil, List.append_nil, List.cons_append, List.nil_append]
  after_reads_simp
  rfl

/-- The region's second operand: the padded boxes transposed. -/
theorem read_columns (c : Dev nD) :
    Gen.V m c main_v18 = transpose S4x5120 [1, 0] (Gen.V m c main_v16) transposes_S5120x4_S4x5120_1_0 := by
  unfold Gen.V Gen.V0
  simp only [hostOps0, hostOps0_1, hostOps0_2, hostOps0_3, hostOps0_4, hostOps0_5, hostOps0_6, List.flatten_cons,
    List.flatten_nil, List.append_nil, List.cons_append, List.nil_append]
  after_reads_simp

/-- The region's third operand: the padded scores as a row. -/
theorem read_row (c : Dev nD) :
    Gen.V m c main_v19 = broadcastInDim S1x5120 ![1] bcast_S5120_S1x5120_1 (Gen.V m c main_v17) := by
  unfold Gen.V Gen.V0
  simp only [hostOps0, hostOps0_1, hostOps0_2, hostOps0_3, hostOps0_4, hostOps0_5, hostOps0_6, List.flatten_cons,
    List.flatten_nil, List.append_nil, List.cons_append, List.nil_append]
  after_reads_simp

variable (W : Valuation τ sig (Elt Ideal))

/-- What the kernel's program does after its region. -/
abbrev tail : List (HloOp τ sig (Elt Ideal)) :=
  List.flatten [hostOps1, hostOps1_1, hostOps1_2, hostOps1_3, hostOps1_4, hostOps1_5]

/-- The first result, from the contents after the region. -/
theorem tail_scores : StableHlo.after tail W (Proc.devRef .tc main_v27)
    = outScores (top (masked (W (Proc.devRef .tc main_v20)) (W (Proc.devRef .tc main_v17)))) := by
  unfold tail
  simp only [hostOps1, hostOps1_1, hostOps1_2, hostOps1_3, hostOps1_4, hostOps1_5, List.flatten_cons,
    List.flatten_nil, List.append_nil, List.cons_append, List.nil_append]
  after_reads_simp
  rfl

/-- The second result, from the contents after the region. -/
theorem tail_classes : StableHlo.after tail W (Proc.devRef .tc main_v39)
    = outClasses (top (masked (W (Proc.devRef .tc main_v20)) (W (Proc.devRef .tc main_v17)))) := by
  unfold tail
  simp only [hostOps1, hostOps1_1, hostOps1_2, hostOps1_3, hostOps1_4, hostOps1_5, List.flatten_cons,
    List.flatten_nil, List.append_nil, List.cons_append, List.nil_append]
  after_reads_simp
  rfl

/-- The third result, from the contents after the region. -/
theorem tail_boxes : StableHlo.after tail W (Proc.devRef .tc main_v38)
    = outBoxes (top (masked (W (Proc.devRef .tc main_v20)) (W (Proc.devRef .tc main_v17))))
        (pick (W (Proc.devRef .tc main_v16)) (topAt (masked (W (Proc.devRef .tc main_v20)) (W (Proc.devRef .tc main_v17))))) := by
  unfold tail
  simp only [hostOps1, hostOps1_1, hostOps1_2, hostOps1_3, hostOps1_4, hostOps1_5, List.flatten_cons,
    List.flatten_nil, List.append_nil, List.cons_append, List.nil_append]
  after_reads_simp
  rfl

end Cert.Proof.Meaning

end
-- ==== Proof.KernelValue.lean ====
module
public import proofs.«01_k».proof.Proof.Region
public import proofs.«01_k».proof.Proof.Meaning
public import Idealize.ShloMosaic.Lib.KernelVsHost

/-! # What the kernel's program leaves in its results

The flags of the region are the greedy choice among the sorted boxes, read on the padded arrays, so
every result is a function of the sorted boxes and scores. -/

@[expose] public section
set_option maxRecDepth 16384
noncomputable section

namespace Cert.Proof.KernelValue

open Idealize.ShloMosaic Idealize.ShloMosaic.TcCoe
open Idealize.SL Idealize.SL.Sem
open Cert.KernelIdeal Cert.KernelIdeal.Gen
open Cert.Proof.Meaning Cert.Proof.Greedy

/-- A box takes part when it is one of the 5000 and its score passes the threshold. -/
def start (s : FVec Ideal S5000 .f32) (j : ℕ) : Prop := ∃ h : j < 5000, lit 0x3D4CCCCD#32 < s (ix1 ⟨j, h⟩)

/-- A coordinate of a box, zero for the boxes past the 5000. -/
def coord (b : FVec Ideal S5000x4 .f32) (i : ℕ) (c : Fin 4) : EReal := if h : i < 5000 then b (ix2 ⟨i, h⟩ c) else 0

/-- Two boxes overlap when their intersection is more than half of their union. -/
def ov (b : FVec Ideal S5000x4 .f32) (i j : ℕ) : Prop :=
  lit 0x3F000000#32 < iouE (coord b i 0) (coord b i 1) (coord b i 2) (coord b i 3) (coord b j 0) (coord b j 1) (coord b j 2) (coord b j 3)

/-- The padded boxes at an index: the coordinate of that box, zero past the last. -/
theorem padBoxes_apply (b : FVec Ideal S5000x4 .f32) (j : Fin 5120) (c : Fin 4) : padBoxes b (ix2 j c) = coord b j.1 c := by
  unfold padBoxes coord
  by_cases h : j.1 < 5000
  · rw [dif_pos h]
    refine pad_apply_of_inside _ _ _ b _ _ _ (ix2 j c) (ix2 ⟨j.1, h⟩ c) fun a => ?_
    fin_cases a
    · show j.1 = 0 + j.1 * (0 + 1); omega
    · show c.1 = 0 + c.1 * (0 + 1); omega
  · rw [dif_neg h]
    refine (pad_apply_of_not_inside _ _ _ b _ _ _ (ix2 j c) (0 : Fin 2) fun hc => h ?_).trans ?_
    · have h2 : (j.1 - 0) / (0 + 1) < 5000 := hc.2.2
      omega
    · show (((0#32 : BitVec 32).toInt : ℝ) : EReal) = 0
      simp

/-- The padded scores before the padding are the scores. -/
theorem padScores_inside (s : FVec Ideal S5000 .f32) (j : Fin 5120) (h : j.1 < 5000) :
    padScores s (ix1 j) = s (ix1 ⟨j.1, h⟩) := by
  unfold padScores
  refine pad_apply_of_inside _ _ _ s _ _ _ (ix1 j) (ix1 ⟨j.1, h⟩) fun a => ?_
  obtain rfl : a = 0 := Subsingleton.elim _ _
  show j.1 = 0 + j.1 * (0 + 1)
  omega

/-- The padded scores in the padding are minus one. -/
theorem padScores_outside (s : FVec Ideal S5000 .f32) (j : Fin 5120) (h : 5000 ≤ j.1) :
    padScores s (ix1 j) = lit 0xBF800000#32 := by
  unfold padScores
  refine pad_apply_of_not_inside _ _ _ s _ _ _ (ix1 j) (0 : Fin 1) fun hc => ?_
  have h2 : (j.1 - 0) / (0 + 1) < 5000 := hc.2.2
  omega

/-- The padded scores that pass the threshold are those that take part. -/
theorem start_iff (s : FVec Ideal S5000 .f32) (j : Fin 5120) : start s j.1 ↔ lit 0x3D4CCCCD#32 < padScores s (ix1 j) := by
  unfold start
  by_cases h : j.1 < 5000
  · rw [padScores_inside s j h]
    exact ⟨fun ⟨_, hs⟩ => hs, fun hs => ⟨h, hs⟩⟩
  · rw [padScores_outside s j (by omega)]
    exact ⟨fun ⟨h', _⟩ => absurd h' h, fun hs => absurd hs (not_lt.mpr neg_one_le_thr)⟩

/-- The padded boxes and their transpose, as the region's body wants them. -/
theorem boxes_ov (b : FVec Ideal S5000x4 .f32) :
    Boxes (ov b) (padBoxes b) (transpose S4x5120 [1, 0] (padBoxes b) transposes_S5120x4_S4x5120_1_0) where
  transposed j c := by pointwise
  overlap i j := by
    simp only [padBoxes_apply]
    exact Iff.rfl

variable (m : (ℓ : Loc nD τ sig) → Buf (Elt Ideal) ℓ)

/-- The boxes in order, at a device's launch -/
abbrev sb (c : Dev nD) : FVec Ideal S5000x4 .f32 :=
  boxes (m ((c : Thread nD τ).loc main_arg0)) (m ((c : Thread nD τ).loc main_arg1))

/-- and their scores. -/
abbrev ss (c : Dev nD) : FVec Ideal S5000 .f32 := scores (m ((c : Thread nD τ).loc main_arg1))

/-- The region's result array ends holding the greedy choice. -/
theorem region_flags (c : Dev nD) : (dats m 0 c).arrAt 3 cfg0.N = Region.flags (start (ss m c)) (ov (sb m c)) := by
  refine Region.final_flags m c ?_ fun j => ?_
  · rw [read_columns, read_boxes]
    exact boxes_ov _
  · rw [read_row, read_scores, start_iff]
    pointwise

/-- What the kernel masks: the padded scores at the greedy choice. -/
abbrev kept (c : Dev nD) : FVec Ideal S5120 .f32 := masked (Region.flags (start (ss m c)) (ov (sb m c))) (padScores (ss m c))

/-- The arrays that the lines after the region read. -/
abbrev after (c : Dev nD) : Valuation τ sig (Elt Ideal) :=
  Pipeline.withArrays (cfgs 0).spec c (V0 m c) fun w => (dats m 0 c).arrAt w (cfgs 0).N

/-- After the region its result holds the flags of the boxes kept, -/
theorem after_flags (c : Dev nD) : after m c (Proc.devRef .tc main_v20) = Region.flags (start (ss m c)) (ov (sb m c)) :=
  (Pipeline.withArrays_arr spec0 (by decide) c (V0 m c) (fun w => (dats m 0 c).arrAt w cfg0.N) 3).trans (region_flags m c)

/-- the padded boxes are as they were, -/
theorem after_boxes (c : Dev nD) : after m c (Proc.devRef .tc main_v16) = padBoxes (sb m c) :=
  (Pipeline.withArrays_arr spec0 (by decide) c (V0 m c) (fun w => (dats m 0 c).arrAt w cfg0.N) 0).trans
    (((dats m 0 c).arrAt_in 0 rfl _).trans ((A_eq m c 0).trans (read_boxes m c)))

/-- and so are the padded scores. -/
theorem after_scores (c : Dev nD) : after m c (Proc.devRef .tc main_v17) = padScores (ss m c) :=
  (Pipeline.withArrays_of_ne spec0 c (V0 m c) _ main_v17 (by exact (by decide : ∀ w, Pipeline.arrRef spec0 w ≠ main_v17))).trans
    (read_scores m c)

variable (ρ : Dev nD → PrngReg)

/-- The kernel's program ends with its results at these functions of the sorted boxes and scores, and its arguments as
    they were. -/
theorem run : θ_run defs (onTc (τ := τ) (main (F := Ideal))) ⟨m, fun _ => 0, ρ⟩ fun r => ∀ c : Dev nD,
      r.2.mem ((c : Thread nD τ).loc main_v27) = outScores (top (kept m c))
      ∧ r.2.mem ((c : Thread nD τ).loc main_v39) = outClasses (top (kept m c))
      ∧ r.2.mem ((c : Thread nD τ).loc main_v38) = outBoxes (top (kept m c)) (pick (padBoxes (sb m c)) (topAt (kept m c)))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v27 (Pipeline.mem_restRefs_of main_v27 (by decide) (by decide))).trans ((tail_scores (after m c)).trans (by
        rw [after_flags, after_scores])),
      ((h c).2 main_v39 (Pipeline.mem_restRefs_of main_v39 (by decide) (by decide))).trans ((tail_classes (after m c)).trans (by
        rw [after_flags, after_scores])),
      ((h c).2 main_v38 (Pipeline.mem_restRefs_of main_v38 (by decide) (by decide))).trans ((tail_boxes (after m c)).trans (by
        rw [after_flags, after_scores, after_boxes])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Proof.KernelValue

end
-- ==== Proof.RefMat.lean ====
module
public import proofs.«01_k».proof.Defs
public import proofs.«01_k».proof.Proof.Gen.ReferenceIdeal
public import proofs.«01_k».proof.Proof.Gen.ReferenceIdeal.Run
public import proofs.«01_k».proof.Proof.KernelValue

/-! # What the reference's loop starts from

The matrix of all overlaps, the positions, the boxes that take part; each read at an index. -/

@[expose] public section
set_option maxRecDepth 16384
noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value
open Cert.Proof.KernelValue (coord start ov)

/-! ### The matrix -/

/-- A vector down the rows of a square -/
def down (x : FVec Ideal S5000 .f32) : FVec Ideal S5000x5000 .f32 :=
  broadcastInDim S5000x5000 ![0, 1] bcast_S5000x1_S5000x5000_0_1 (broadcastInDim S5000x1 ![0] bcast_S5000_S5000x1_0 x)

/-- and across its columns. -/
def across (x : FVec Ideal S5000 .f32) : FVec Ideal S5000x5000 .f32 :=
  broadcastInDim S5000x5000 ![0, 1] bcast_S1x5000_S5000x5000_0_1 (broadcastInDim S1x5000 ![1] bcast_S5000_S1x5000_1 x)

/-- Down the rows, an entry depends on its row alone. -/
theorem down_apply (x : FVec Ideal S5000 .f32) (i j : Fin 5000) : down x (ix2 i j) = x (ix1 i) := by
  pointwise [down]

/-- Across the columns, an entry depends on its column alone. -/
theorem across_apply (x : FVec Ideal S5000 .f32) (i j : Fin 5000) : across x (ix2 i j) = x (ix1 j) := by
  pointwise [across]

/-- The first coordinate of the boxes. -/
def x1 (b : FVec Ideal S5000x4 .f32) : FVec Ideal S5000 .f32 :=
  shapeCast S5000 (extractStridedSlice S5000x1 ![0, 0] b slices_S5000x4_S5000x1_0_0) shapeCasts_S5000x1_S5000
/-- The second coordinate of the boxes. -/
def y1 (b : FVec Ideal S5000x4 .f32) : FVec Ideal S5000 .f32 :=
  shapeCast S5000 (extractStridedSlice S5000x1 ![0, 1] b slices_S5000x4_S5000x1_0_1) shapeCasts_S5000x1_S5000
/-- The third coordinate of the boxes. -/
def x2 (b : FVec Ideal S5000x4 .f32) : FVec Ideal S5000 .f32 :=
  shapeCast S5000 (extractStridedSlice S5000x1 ![0, 2] b slices_S5000x4_S5000x1_0_2) shapeCasts_S5000x1_S5000
/-- The fourth coordinate of the boxes. -/
def y2 (b : FVec Ideal S5000x4 .f32) : FVec Ideal S5000 .f32 :=
  shapeCast S5000 (extractStridedSlice S5000x1 ![0, 3] b slices_S5000x4_S5000x1_0_3) shapeCasts_S5000x1_S5000

/-- The first coordinate of a box. -/
theorem x1_apply (b : FVec Ideal S5000x4 .f32) (i : Fin 5000) : x1 b (ix1 i) = b (ix2 i 0) := by pointwise [x1]
/-- The second coordinate of a box. -/
theorem y1_apply (b : FVec Ideal S5000x4 .f32) (i : Fin 5000) : y1 b (ix1 i) = b (ix2 i 1) := by pointwise [y1]
/-- The third coordinate of a box. -/
theorem x2_apply (b : FVec Ideal S5000x4 .f32) (i : Fin 5000) : x2 b (ix1 i) = b (ix2 i 2) := by pointwise [x2]
/-- The fourth coordinate of a box. -/
theorem y2_apply (b : FVec Ideal S5000x4 .f32) (i : Fin 5000) : y2 b (ix1 i) = b (ix2 i 3) := by pointwise [y2]

/-- The areas of the boxes. -/
def area (b : FVec Ideal S5000x4 .f32) : FVec Ideal S5000 .f32 := mulf (subf (x2 b) (x1 b)) (subf (y2 b) (y1 b))

/-- A matrix with its negative entries replaced by zero. -/
def clip (x : FVec Ideal S5000x5000 .f32) : FVec Ideal S5000x5000 .f32 :=
  maximumf (broadcastInDim S5000x5000 ![] bcast_S_S5000x5000 (constant S_ .f32 0x00000000#32)) x

/-- The areas of the intersections. -/
def inter (b : FVec Ideal S5000x4 .f32) : FVec Ideal S5000x5000 .f32 :=
  mulf (clip (subf (minimumf (down (x2 b)) (across (x2 b))) (maximumf (down (x1 b)) (across (x1 b)))))
    (clip (subf (minimumf (down (y2 b)) (across (y2 b))) (maximumf (down (y1 b)) (across (y1 b)))))

/-- The overlaps. -/
def overlaps (b : FVec Ideal S5000x4 .f32) : FVec Ideal S5000x5000 .f32 :=
  Host.divf (inter b) (maximumf (subf (addf (down (area b)) (across (area b))) (inter b))
    (broadcastInDim S5000x5000 ![] bcast_S_S5000x5000 (constant S_ .f32 0x322BCC77#32)))

/-- An entry with negative ones replaced by zero is the greater of it and zero. -/
theorem clip_apply (x : FVec Ideal S5000x5000 .f32) (p : S5000x5000.Idx) : clip x p = max 0 (x p) := by
  show max (lit 0x00000000#32) (x p) = _
  rw [show lit 0x00000000#32 = 0 from by simp [lit, Ideal.ofBits, Ideal.ieee]]

/-- The area of the intersection of two boxes. -/
theorem inter_apply (b : FVec Ideal S5000x4 .f32) (i j : Fin 5000) : inter b (ix2 i j)
    = max 0 (min (b (ix2 i 2)) (b (ix2 j 2)) - max (b (ix2 i 0)) (b (ix2 j 0)))
      * max 0 (min (b (ix2 i 3)) (b (ix2 j 3)) - max (b (ix2 i 1)) (b (ix2 j 1))) := by
  show clip _ (ix2 i j) * clip _ (ix2 i j) = _
  rw [clip_apply, clip_apply]
  show max 0 (min (down _ (ix2 i j)) (across _ (ix2 i j)) - max (down _ (ix2 i j)) (across _ (ix2 i j)))
    * max 0 (min (down _ (ix2 i j)) (across _ (ix2 i j)) - max (down _ (ix2 i j)) (across _ (ix2 i j))) = _
  simp only [down_apply, across_apply, x1_apply, y1_apply, x2_apply, y2_apply]

/-- The area of a box. -/
theorem area_apply (b : FVec Ideal S5000x4 .f32) (i : Fin 5000) : area b (ix1 i)
    = (b (ix2 i 2) - b (ix2 i 0)) * (b (ix2 i 3) - b (ix2 i 1)) := by
  show (x2 b (ix1 i) - x1 b (ix1 i)) * (y2 b (ix1 i) - y1 b (ix1 i)) = _
  rw [x1_apply, y1_apply, x2_apply, y2_apply]

/-- The matrix read at an index is the overlap of the two boxes. -/
theorem overlaps_apply (b : FVec Ideal S5000x4 .f32) (i j : Fin 5000) : overlaps b (ix2 i j)
    = iouE (b (ix2 i 0)) (b (ix2 i 1)) (b (ix2 i 2)) (b (ix2 i 3)) (b (ix2 j 0)) (b (ix2 j 1)) (b (ix2 j 2)) (b (ix2 j 3)) := by
  show Ideal.div (inter b (ix2 i j)) (max (down (area b) (ix2 i j) + across (area b) (ix2 i j) - inter b (ix2 i j)) (lit 0x322BCC77#32)) = _
  rw [inter_apply, down_apply, across_apply, area_apply, area_apply]
  rfl

/-- So a matrix entry is more than a half exactly when the two boxes overlap. -/
theorem overlaps_ov (b : FVec Ideal S5000x4 .f32) (i j : Fin 5000) : lit 0x3F000000#32 < overlaps b (ix2 i j) ↔ ov b i.1 j.1 := by
  rw [overlaps_apply]
  have hc : ∀ (k : Fin 5000) (c : Fin 4), coord b k.1 c = b (ix2 k c) := fun k c => dif_pos k.2
  unfold ov
  simp only [hc]

/-! ### The entry of the loop -/

variable (m : (ℓ : Loc nD τ sig) → Buf (Elt Ideal) ℓ)

/-- The boxes in order, at a device's launch -/
abbrev sb (c : Dev nD) : FVec Ideal S5000x4 .f32 :=
  Meaning.boxes (m ((c.tc : Thread nD τ).loc main_arg0)) (m ((c.tc : Thread nD τ).loc main_arg1))

/-- and their scores. -/
abbrev ss (c : Dev nD) : FVec Ideal S5000 .f32 := Meaning.scores (m ((c.tc : Thread nD τ).loc main_arg1))

/-- The scores against the threshold. -/
def passing (s : FVec Ideal S5000 .f32) : IVec S5000 1 :=
  cmpf .ogt s (broadcastInDim S5000 ![] bcast_S_S5000 (constant S_ .f32 0x3D4CCCCD#32))

/-- Before the loop: the boxes in order. -/
theorem entry_boxes (c : Dev nD) : entryContents preI m c (Proc.devRef .tc main_v8) = sb m c := by
  simp only [entryContents, afterL_cons, afterL_nil]
  after_reads_simp
  rfl

/-- Before the loop: their scores. -/
theorem entry_scores (c : Dev nD) : entryContents preI m c (Proc.devRef .tc main_v15) = ss m c := by
  simp only [entryContents, afterL_cons, afterL_nil]
  after_reads_simp
  rfl

/-- The loop starts from the matrix of overlaps, -/
theorem entry_matrix (c : Dev nD) : entryContents preI m c (Proc.devRef .tc main_v64_0) = overlaps (sb m c) := by
  simp only [entryContents, afterL_cons, afterL_nil]
  after_reads_simp
  rfl

/-- the positions, -/
theorem entry_positions (c : Dev nD) : entryContents preI m c (Proc.devRef .tc main_v64_1) = iotaInDim S5000 32 0 := by
  simp only [entryContents, afterL_cons, afterL_nil]
  after_reads_simp
  rfl

/-- the trip number zero, -/
theorem entry_index (c : Dev nD) : entryContents preI m c (Proc.devRef .tc main_v64_3) = constantI S_ 32 0#32 := by
  simp only [entryContents, afterL_cons, afterL_nil]
  after_reads_simp
  rfl

/-- and the scores against the threshold. -/
theorem entry_keep (c : Dev nD) : entryContents preI m c (Proc.devRef .tc main_v64_4) = passing (ss m c) := by
  simp only [entryContents, afterL_cons, afterL_nil]
  after_reads_simp
  rfl

end Cert.Proof.Ref

end
-- ==== Proof.RefLoop.lean ====
module
public import proofs.«01_k».proof.Proof.RefMat
public import proofs.«01_k».proof.Proof.Greedy
public import Idealize.ShloMosaic.Lib.DynamicIndex

/-! # The reference's loop keeps the boxes that greedy suppression keeps

One trip of the loop is a function of the matrix, the positions, the trip's number and the bits of
the boxes still alive; its bits are those of `Alive` one step further. -/

@[expose] public section
set_option maxRecDepth 16384
noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value
open Cert.Proof.KernelValue (start ov)
open Cert.Proof.Greedy (Alive Kept)

/-! ### One trip -/

/-- A position, counted from the end when negative. -/
def wrap (p : IVec S_ 32) : IVec S_ 32 :=
  select (cmpi .slt p (constantI S_ 32 0#32)) (addi p (constantI S_ 32 5000#32)) p

/-- The matrix's row at a position. -/
def row (M : FVec Ideal S5000x5000 .f32) (p : IVec S_ 32) : FVec Ideal S5000 .f32 :=
  shapeCast S5000 (Host.dynamicSlice S1x5000 M
    (fun k => (((![wrap p, wrap (constantI S_ 32 0#32)] : Fin 2 → IVec S_ 32) k) (Shape.Idx.first h_S_)).toInt)
    sliceFits_S5000x5000_S1x5000) shapeCasts_S1x5000_S5000

/-- The bit at a position. -/
def bit (K : IVec S5000 1) (p : IVec S_ 32) : IVec S_ 1 :=
  shapeCast S_ (Host.dynamicSlice S1 K (fun k => (((![wrap p] : Fin 1 → IVec S_ 32) k) (Shape.Idx.first h_S_)).toInt)
    sliceFits_S5000_S1) shapeCasts_S1_S_

/-- The bits after a trip: those before it, less the later boxes that overlap the trip's box, if that box is alive. -/
def trip (M : FVec Ideal S5000x5000 .f32) (io : IVec S5000 32) (p : IVec S_ 32) (K : IVec S5000 1) : IVec S5000 1 :=
  andi K (noti (andi (andi (cmpf .ogt (row M p) (broadcastInDim S5000 ![] bcast_S_S5000 (constant S_ .f32 0x3F000000#32)))
    (cmpi .sgt io (broadcastInDim S5000 ![] bcast_S_S5000 p))) (broadcastInDim S5000 ![] bcast_S_S5000 (bit K p))))

/-- The loop's body computes a trip. -/
theorem step_keep (X : Valuation τ sig (Elt Ideal)) : step_main_v64_4 X
    = trip (X (Proc.devRef .tc main_v64_0)) (X (Proc.devRef .tc main_v64_1)) (X (Proc.devRef .tc main_v64_3)) (X (Proc.devRef .tc main_v64_4)) := rfl

/-- A position in range is not moved. -/
theorem wrap_apply (n : ℕ) (hn : n < 5000) (i : S_.Idx) : (wrap (constantI S_ 32 (BitVec.ofNat 32 n)) i).toInt = n :=
  toInt_wrap_ofNat n (by omega)

/-- A matrix of one row, read as a vector. -/
theorem cast_row (x : FVec Ideal S1x5000 .f32) (j : Fin 5000) : shapeCast S5000 x shapeCasts_S1x5000_S5000 (ix1 j) = x (ix2 0 j) := by
  pointwise

/-- The matrix's row at a position in range. -/
theorem row_apply (M : FVec Ideal S5000x5000 .f32) (n : Fin 5000) (j : Fin 5000) :
    row M (constantI S_ 32 (BitVec.ofNat 32 n.1)) (ix1 j) = M (ix2 n j) := by
  have hs : S5000x5000.Slices (![n.1, 0] : Fin 2 → ℕ) S1x5000 :=
    ⟨rfl, fun a => match a with
      | ⟨0, _⟩ => (n.2 : n.1 + 1 ≤ 5000)
      | ⟨1, _⟩ => (le_of_eq rfl : 0 + 5000 ≤ 5000)⟩
  unfold row
  rw [cast_row, Host.dynamicSlice_eq_extractStridedSlice S1x5000 M _ (![n.1, 0] : Fin 2 → ℕ) _ hs fun a => ?_]
  · refine congrArg M (funext fun a => Fin.ext ?_)
    fin_cases a
    · show n.1 + 0 = n.1; omega
    · show 0 + j.1 = j.1; omega
  · fin_cases a
    · exact wrap_apply n.1 n.2 _
    · exact wrap_apply 0 (by omega) (Shape.Idx.first h_S_)

/-- The bit at a position in range. -/
theorem bit_apply (K : IVec S5000 1) (n : Fin 5000) (i : S_.Idx) :
    bit K (constantI S_ 32 (BitVec.ofNat 32 n.1)) i = K (ix1 n) := by
  have hs : S5000.Slices (![n.1] : Fin 1 → ℕ) S1 :=
    ⟨rfl, fun a => by fin_cases a; show n.1 + 1 ≤ 5000; omega⟩
  unfold bit
  rw [Host.dynamicSlice_eq_extractStridedSlice S1 K _ (![n.1] : Fin 1 → ℕ) _ hs fun a => ?_]
  · refine congrArg K (funext fun a => Fin.ext ?_)
    fin_cases a
    have h0 : ∀ q : Fin 1, n.1 + q.1 = n.1 := fun q => by omega
    exact h0 _
  · fin_cases a
    exact wrap_apply n.1 n.2 _

open Classical in
/-- The bits of a set of positions. -/
def bits (P : ℕ → Prop) : IVec S5000 1 := fun i => BitVec.ofBool (decide (P (i 0).1))

/-- One trip, from the bits of the boxes alive, gives the bits of those alive one step further. -/
theorem trip_bits (b : FVec Ideal S5000x4 .f32) (st : ℕ → Prop) (n : Fin 5000) :
    trip (overlaps b) (iotaInDim S5000 32 0) (constantI S_ 32 (BitVec.ofNat 32 n.1)) (bits (Alive st (ov b) n.1))
      = bits (Alive st (ov b) (n.1 + 1)) := by
  classical
  funext i
  obtain ⟨j, rfl⟩ : ∃ j : Fin 5000, i = ix1 j := ⟨i 0, funext fun a => by fin_cases a; rfl⟩
  have hr : cmpf .ogt (row (overlaps b) (constantI S_ 32 (BitVec.ofNat 32 n.1)))
      (broadcastInDim S5000 ![] bcast_S_S5000 (constant S_ .f32 0x3F000000#32)) (ix1 j) = BitVec.ofBool (decide (ov b n.1 j.1)) := by
    show BitVec.ofBool (decide (lit 0x3F000000#32 < row _ _ (ix1 j))) = _
    rw [row_apply]
    exact congrArg BitVec.ofBool (decide_eq_decide.2 (overlaps_ov b n j))
  have hp : cmpi .sgt (iotaInDim S5000 32 0) (broadcastInDim S5000 ![] bcast_S_S5000 (constantI S_ 32 (BitVec.ofNat 32 n.1))) (ix1 j)
      = BitVec.ofBool (decide (n.1 < j.1)) := by
    show BitVec.ofBool (decide ((BitVec.ofNat 32 n.1).toInt < (BitVec.ofNat 32 j.1).toInt)) = _
    rw [toInt_ofNat_of_lt (by omega), toInt_ofNat_of_lt (by omega)]
    exact congrArg BitVec.ofBool (decide_eq_decide.2 Int.ofNat_lt)
  have hb : broadcastInDim S5000 ![] bcast_S_S5000 (bit (bits (Alive st (ov b) n.1)) (constantI S_ 32 (BitVec.ofNat 32 n.1))) (ix1 j)
      = BitVec.ofBool (decide (Alive st (ov b) n.1 n.1)) := bit_apply _ n _
  have ha := Greedy.alive_succ st (ov b) n.1 j.1
  unfold trip
  show bits (Alive st (ov b) n.1) (ix1 j) &&& ~~~((cmpf _ _ _ (ix1 j) &&& cmpi _ _ _ (ix1 j)) &&& broadcastInDim _ _ _ _ (ix1 j)) = _
  rw [hr, hp, hb]
  show BitVec.ofBool (decide (Alive st (ov b) n.1 j.1)) &&& _ = BitVec.ofBool (decide (Alive st (ov b) (n.1 + 1) j.1))
  rw [show decide (Alive st (ov b) (n.1 + 1) j.1) = decide (Alive st (ov b) n.1 j.1 ∧ ¬(n.1 < j.1 ∧ ov b n.1 j.1 ∧ Alive st (ov b) n.1 n.1))
    from decide_eq_decide.2 ha]
  by_cases h1 : Alive st (ov b) n.1 j.1 <;> by_cases h2 : n.1 < j.1 <;> by_cases h3 : ov b n.1 j.1 <;>
    by_cases h4 : Alive st (ov b) n.1 n.1 <;> simp [h1, h2, h3, h4]

/-! ### All trips -/

variable (m : (ℓ : Loc nD τ sig) → Buf (Elt Ideal) ℓ)

/-- The scores against the threshold are the bits of the boxes that take part. -/
theorem passing_bits (s : FVec Ideal S5000 .f32) (o : ℕ → ℕ → Prop) : passing s = bits (Alive (start s) o 0) := by
  classical
  funext i
  obtain ⟨j, rfl⟩ : ∃ j : Fin 5000, i = ix1 j := ⟨i 0, funext fun a => by fin_cases a; rfl⟩
  show BitVec.ofBool (decide (lit 0x3D4CCCCD#32 < s (ix1 j))) = BitVec.ofBool (decide (Alive (start s) o 0 j.1))
  refine congrArg BitVec.ofBool (decide_eq_decide.2 ?_)
  rw [Greedy.alive_zero]
  exact ⟨fun h => ⟨j.2, h⟩, fun ⟨_, h⟩ => h⟩

/-- The loop's buffers after each trip. -/
theorem loop (c : Dev nD) : ∀ n, n ≤ 5000 →
    STEP^[n] (entryContents preI m c) (Proc.devRef .tc main_v64_0) = overlaps (sb m c)
    ∧ STEP^[n] (entryContents preI m c) (Proc.devRef .tc main_v64_1) = iotaInDim S5000 32 0
    ∧ STEP^[n] (entryContents preI m c) (Proc.devRef .tc main_v64_3) = constantI S_ 32 (BitVec.ofNat 32 n)
    ∧ STEP^[n] (entryContents preI m c) (Proc.devRef .tc main_v64_4) = bits (Alive (start (ss m c)) (ov (sb m c)) n)
  | 0, _ => ⟨entry_matrix m c, entry_positions m c, entry_index m c, (entry_keep m c).trans (passing_bits _ _)⟩
  | n + 1, h => by
    obtain ⟨h0, h1, h3, h4⟩ := loop c n (by omega)
    rw [Function.iterate_succ_apply']
    refine ⟨(STEP_main_v64_0 _).trans h0, (STEP_main_v64_1 _).trans h1, (STEP_main_v64_3 _).trans ?_, (STEP_main_v64_4 _).trans ?_⟩
    · unfold step_main_v64_3
      rw [h3]
      funext i
      show BitVec.ofNat 32 n + 1#32 = BitVec.ofNat 32 (n + 1)
      exact (BitVec.ofNat_add n 1).symm
    · rw [step_keep, h0, h1, h3, h4]
      exact trip_bits _ _ ⟨n, by omega⟩

/-- After the loop the bits are those of the boxes kept. -/
theorem final_keep (c : Dev nD) : atK m 5000 c (Proc.devRef .tc main_v64_4) = bits (Kept (start (ss m c)) (ov (sb m c))) := by
  classical
  refine ((atK_agree m c 5000) main_v64_4 (by decide)).trans ((loop m c 5000 le_rfl).2.2.2.trans ?_)
  funext i
  exact congrArg BitVec.ofBool (decide_eq_decide.2 (Greedy.alive_of_le _ _ (le_of_lt (i 0).2)))

end Cert.Proof.Ref

end
-- ==== Proof.RefValue.lean ====
module
public import proofs.«01_k».proof.Proof.RefFrame
public import proofs.«01_k».proof.Proof.RefLoop

/-! # What the reference leaves in its results -/

@[expose] public section
set_option maxRecDepth 16384
noncomputable section

namespace Cert.Proof.Ref

open Idealize.ShloMosaic Idealize.ShloMosaic.TcCoe Idealize.ShloMosaic.StableHlo Idealize.SL.Sem
open Cert.ReferenceIdeal Cert.ReferenceIdeal.Gen Cert.ReferenceIdeal.Value
open Cert.Proof.KernelValue (start ov)
open Cert.Proof.Greedy (Kept)
open Cert.Proof.Meaning (outScores outClasses outBoxes pickColumn)

variable (m : (ℓ : Loc nD τ sig) → Buf (Elt Ideal) ℓ)

/-- The scores of the boxes that the bits keep, minus one at the others. -/
def masked (K : IVec S5000 1) (s : FVec Ideal S5000 .f32) : FVec Ideal S5000 .f32 :=
  select K s (broadcastInDim S5000 ![] bcast_S_S5000 (constant S_ .f32 0xBF800000#32))

/-- The masked scores' greatest values -/
def top (x : FVec Ideal S5000 .f32) : FVec Ideal S300 .f32 :=
  (Host.topK S300 0 (FloatOps.cmpfTotal .gt) x sliceFits_S5000_S300).1

/-- and their positions. -/
def topAt (x : FVec Ideal S5000 .f32) : IVec S300 32 :=
  (Host.topK S300 0 (FloatOps.cmpfTotal .gt) x sliceFits_S5000_S300).2

/-- The boxes at the picked positions. -/
def pick (b : FVec Ideal S5000x4 .f32) (p : IVec S300 32) : FVec Ideal S300x4 .f32 :=
  Host.gather gather_S5000x4_S300x1_S300x4_1_0_n_n_0_1_14 b (pickColumn 5000#32 p)

/-- The masked scores after the loop. -/
def kept (c : Dev nD) : FVec Ideal S5000 .f32 := masked (bits (Kept (start (ss m c)) (ov (sb m c)))) (ss m c)

/-- After the loop the boxes are as before it, -/
theorem after_boxes (c : Dev nD) : atK m 5000 c (Proc.devRef .tc main_v8) = sb m c :=
  (atK_keep m c main_v8 (by decide) (by decide) 5000).trans (entry_boxes m c)

/-- and so are the scores. -/
theorem after_scores (c : Dev nD) : atK m 5000 c (Proc.devRef .tc main_v15) = ss m c :=
  (atK_keep m c main_v15 (by decide) (by decide) 5000).trans (entry_scores m c)

/-! ### The operations after the loop -/

variable (X : Valuation τ sig (Elt Ideal))

/-- The contents once the scores are masked. -/
abbrev withMask : Valuation τ sig (Elt Ideal) := after hostOps0_8 (after hostOps0_7 (after condOps X))

/-- The masked scores, from the contents after the loop. -/
theorem withMask_mask : withMask X (Proc.devRef .tc main_v65)
    = masked (X (Proc.devRef .tc main_v64_4)) (X (Proc.devRef .tc main_v15)) := by
  unfold withMask
  after_reads_simp
  rfl

/-- Masking the scores leaves the boxes. -/
theorem withMask_boxes : withMask X (Proc.devRef .tc main_v8) = X (Proc.devRef .tc main_v8) := by
  unfold withMask
  after_reads_simp

/-- The contents at the end, from those once the scores are masked. -/
abbrev atEnd : Valuation τ sig (Elt Ideal) := after hostOps0_12 (after hostOps0_11 (after hostOps0_10 (after hostOps0_9 X)))

/-- The first result, from the masked scores. -/
theorem atEnd_scores : atEnd X (Proc.devRef .tc main_v68) = outScores (top (X (Proc.devRef .tc main_v65))) := by
  unfold atEnd
  after_reads_simp
  unfold top
  generalize Host.topK S300 0 (FloatOps.cmpfTotal (F := Ideal) (φ := .f32) .gt) (X (Proc.devRef .tc main_v65) : FVec Ideal S5000 .f32) sliceFits_S5000_S300 = T
  rfl

/-- The second result, from the masked scores. -/
theorem atEnd_classes : atEnd X (Proc.devRef .tc main_v80) = outClasses (top (X (Proc.devRef .tc main_v65))) := by
  unfold atEnd
  after_reads_simp
  unfold top
  generalize Host.topK S300 0 (FloatOps.cmpfTotal (F := Ideal) (φ := .f32) .gt) (X (Proc.devRef .tc main_v65) : FVec Ideal S5000 .f32) sliceFits_S5000_S300 = T
  rfl

/-- The third result, from the masked scores and the boxes. -/
theorem atEnd_boxes : atEnd X (Proc.devRef .tc main_v79)
    = outBoxes (top (X (Proc.devRef .tc main_v65))) (pick (X (Proc.devRef .tc main_v8)) (topAt (X (Proc.devRef .tc main_v65)))) := by
  unfold atEnd
  after_reads_simp
  unfold top topAt
  generalize Host.topK S300 0 (FloatOps.cmpfTotal (F := Ideal) (φ := .f32) .gt) (X (Proc.devRef .tc main_v65) : FVec Ideal S5000 .f32) sliceFits_S5000_S300 = T
  rfl

/-- The mask at the end of the run is that of the boxes kept. -/
theorem final_mask (c : Dev nD) : withMask (atK m 5000 c) (Proc.devRef .tc main_v65) = kept m c :=
  (withMask_mask _).trans (congrArg₂ masked (final_keep m c) (after_scores m c))

/-- The first result at the end of the run. -/
theorem final_scores (c : Dev nD) :
    finalContents condOps preI bodyI postI 5000 m c (Proc.devRef .tc main_v68) = outScores (top (kept m c)) :=
  (atEnd_scores (withMask (atK m 5000 c))).trans (congrArg (fun x => outScores (top x)) (final_mask m c))

/-- The second result at the end of the run. -/
theorem final_classes (c : Dev nD) :
    finalContents condOps preI bodyI postI 5000 m c (Proc.devRef .tc main_v80) = outClasses (top (kept m c)) :=
  (atEnd_classes (withMask (atK m 5000 c))).trans (congrArg (fun x => outClasses (top x)) (final_mask m c))

/-- The third result at the end of the run. -/
theorem final_boxes (c : Dev nD) :
    finalContents condOps preI bodyI postI 5000 m c (Proc.devRef .tc main_v79)
      = outBoxes (top (kept m c)) (pick (sb m c) (topAt (kept m c))) :=
  (atEnd_boxes (withMask (atK m 5000 c))).trans
    (congrArg₂ (fun x b => outBoxes (top x) (pick b (topAt x))) (final_mask m c) ((withMask_boxes _).trans (after_boxes m c)))

/-- A run of the reference leaves its results in the three buffers and its arguments as they were. -/
theorem run (ρ : Dev nD → PrngReg) : θ_run (defs (F := Ideal)) (onTc (τ := τ) (main (F := Ideal))) ⟨m, fun _ => 0, ρ⟩
    (fun r => ∀ c : Dev nD,
      r.2.mem ((c.tc : Thread nD τ).loc main_v68) = outScores (top (kept m c))
      ∧ r.2.mem ((c.tc : Thread nD τ).loc main_v80) = outClasses (top (kept m c))
      ∧ r.2.mem ((c.tc : Thread nD τ).loc main_v79) = outBoxes (top (kept m c)) (pick (sb m c) (topAt (kept m c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run _ _ _).mono (fun _ h c =>
      ⟨(h c main_v68 (by decide)).trans (final_scores m c), (h c main_v80 (by decide)).trans (final_classes m c),
        (h c main_v79 (by decide)).trans (final_boxes m c), (h c main_arg0 (by decide)).trans (final_arg0 m c),
        (h c main_arg1 (by decide)).trans (final_arg1 m c)⟩)
    (run_fold (F := Ideal) m ρ)

end Cert.Proof.Ref

end
-- ==== Proof.SortPad.lean ====
/- A stable sort of a list followed by entries that never come before its entries sorts the two parts separately. So the
   leading positions of a padded array's sort are those of the unpadded one's. -/
module

public import Idealize.ShloMosaic.Lib.SortFacts
public import Idealize.ShloMosaic.Lib.Pointwise

@[expose] public section

namespace Cert.Proof.SortPad

open Idealize.ShloMosaic

/-- Inserting in front of entries that do not come before the inserted one leaves these behind. -/
theorem insertBefore_append {ι : Type} (B : ι → ι → Bool) (a : ι) (l t : List ι) (ht : ∀ b ∈ t, B b a = false) :
    insertBefore B a (l ++ t) = insertBefore B a l ++ t := by
  induction l with
  | nil =>
    cases t with
    | nil => rfl
    | cons b t => simp [insertBefore, ht b (by simp)]
  | cons b l ih =>
    simp only [List.cons_append, insertBefore]
    split <;> simp [ih]

/-- A tail none of whose entries comes before an entry of the list is sorted for itself. -/
theorem stableSort_append {ι : Type} (B : ι → ι → Bool) (l t : List ι) (h : ∀ a ∈ l, ∀ b ∈ t, B b a = false) :
    stableSort B (l ++ t) = stableSort B l ++ stableSort B t := by
  induction l with
  | nil => rfl
  | cons a l ih =>
    simp only [List.cons_append, stableSort]
    rw [ih fun x hx => h x (by simp [hx]), insertBefore_append]
    intro b hb
    exact h a (by simp) b ((perm_stableSort B t).mem_iff.1 hb)

/-- Inserting commutes with renaming the entries. -/
theorem insertBefore_map {ι κ : Type} (f : ι → κ) (B : ι → ι → Bool) (B' : κ → κ → Bool)
    (h : ∀ a b, B' (f a) (f b) = B a b) (a : ι) (l : List ι) :
    insertBefore B' (f a) (l.map f) = (insertBefore B a l).map f := by
  induction l with
  | nil => rfl
  | cons b l ih =>
    simp only [List.map_cons, insertBefore, h]
    split <;> simp [ih]

/-- Sorting commutes with renaming the entries. -/
theorem stableSort_map {ι κ : Type} (f : ι → κ) (B : ι → ι → Bool) (B' : κ → κ → Bool)
    (h : ∀ a b, B' (f a) (f b) = B a b) (l : List ι) :
    stableSort B' (l.map f) = (stableSort B l).map f := by
  induction l with
  | nil => rfl
  | cons a l ih => simp only [List.map_cons, stableSort, ih, insertBefore_map f B B' h]

/-- The positions of an array of `N` are those of its first `n`, then the others. -/
theorem finRange_split {n N : ℕ} (h : n ≤ N) :
    ∃ t : List (Fin N), List.finRange N = (List.finRange n).map (Fin.castLE h) ++ t ∧ ∀ b ∈ t, n ≤ b.1 := by
  refine ⟨(List.finRange N).drop n, ?_, ?_⟩
  · conv_lhs => rw [← List.take_append_drop n (List.finRange N)]
    congr 1
    apply List.ext_getElem
    · simp [h]
    · intro i h1 h2
      simp
  · intro b hb
    obtain ⟨i, hi, rfl⟩ := List.getElem_of_mem hb
    simp

/-- When the positions from `n` on never come before the first `n`, and these compare as an array of `n` does, the first
    `n` sorted positions are that array's. -/
theorem sortedFrom_pad {n N : ℕ} (h : n ≤ N) (B : Fin n → Fin n → Bool) (B' : Fin N → Fin N → Bool)
    (hB : ∀ a b, B' (Fin.castLE h a) (Fin.castLE h b) = B a b)
    (hpad : ∀ (a : Fin n) (b : Fin N), n ≤ b.1 → B' b (Fin.castLE h a) = false) (k : Fin n) :
    (sortedFrom B' (Fin.castLE h k)).1 = (sortedFrom B k).1 := by
  obtain ⟨t, e, ht⟩ := finRange_split h
  have hs : sortPositions N B' = (sortPositions n B).map (Fin.castLE h) ++ stableSort B' t := by
    unfold sortPositions
    rw [e, stableSort_append, stableSort_map _ B B' hB]
    intro a ha b hb
    obtain ⟨a, _, rfl⟩ := List.mem_map.1 ha
    exact hpad a b (ht b hb)
  have hl : k.1 < (sortPositions n B).length := by
    rw [length_sortPositions]; exact k.2
  simp only [sortedFrom, List.get_eq_getElem, Fin.val_cast, Fin.val_castLE, hs]
  rw [List.getElem_append_left (by simpa using hl)]
  simp

end Cert.Proof.SortPad
-- ==== Proof.TopPad.lean ====
module
public import proofs.«01_k».proof.Proof.SortPad
public import Idealize.ShloMosaic.Lib.Routing.Ops
public import Idealize.ShloMosaic.Lib.Pointwise

/-! # The greatest entries of a padded row

Padding a row at its end with a value that no entry is below leaves its leading greatest entries,
and their positions, as they were. -/

@[expose] public section
noncomputable section

namespace Cert.Proof.TopPad

open Idealize.ShloMosaic

/-- Rows of `n` entries. -/
abbrev L (n : ℕ) : Shape := ⟨1, ![n]⟩

/-- Moving an index of a row along its one axis. -/
theorem along_row {n : ℕ} (j : (L n).Idx) (k : Fin n) : Shape.Idx.along (s := L n) j (0 : Fin 1) k = ix1 k := by
  funext b
  obtain rfl : b = 0 := Subsingleton.elim _ _
  exact Function.update_self ..

/-- The comparison of two entries of a row that orders its positions: strictly greater comes first. -/
def above {n : ℕ} (x : FVec Ideal (L n) .f32) (a b : Fin n) : Bool :=
  (FloatOps.cmpfTotal .gt (x (ix1 a)) (x (ix1 b)) : BitVec 1) == 1#1

/-- One entry comes before another exactly when it is strictly greater. -/
theorem above_iff {n : ℕ} (x : FVec Ideal (L n) .f32) (a b : Fin n) : above x a b = decide (x (ix1 b) < x (ix1 a)) := by
  unfold above
  show (BitVec.ofBool (decide _) == 1#1) = _
  by_cases h : x (ix1 b) < x (ix1 a) <;> simp [h]

/-- The position in the row of its `i`-th greatest entry. -/
def place {n : ℕ} (x : FVec Ideal (L n) .f32) (i : Fin n) : Fin n := sortedFrom (above x) i

/-- The `i`-th greatest value. -/
theorem topK_value {n k : ℕ} (x : FVec Ideal (L n) .f32) (h : (L n).Slices (fun _ => 0) (L k)) (hk : k ≤ n) (i : Fin k) :
    (Host.topK (L k) 0 (FloatOps.cmpfTotal .gt) x h).1 (ix1 i) = x (ix1 (place x (Fin.castLE hk i))) := by
  refine (congrArg x (along_row _ _)).trans ?_
  refine congrArg x (congrArg ix1 ?_)
  refine congr (congrArg sortedFrom (funext fun a => funext fun b => ?_)) (Fin.ext ?_)
  · exact congrArg₂ (fun u v : EReal => (FloatOps.cmpfTotal (F := Ideal) (φ := .f32) .gt u v : BitVec 1) == 1#1)
      (congrArg x (along_row _ a)) (congrArg x (along_row _ b))
  · show 0 + i.1 = i.1
    omega

/-- The word that names the position of the `i`-th greatest value. -/
theorem topK_index {n k : ℕ} (x : FVec Ideal (L n) .f32) (h : (L n).Slices (fun _ => 0) (L k)) (hk : k ≤ n) (i : Fin k) :
    (Host.topK (L k) 0 (FloatOps.cmpfTotal .gt) x h).2 (ix1 i) = BitVec.ofNat 32 (place x (Fin.castLE hk i)).1 := by
  refine (congrArg (fun q : (L n).Idx => BitVec.ofNat 32 (q 0).1) (along_row _ _)).trans ?_
  refine congrArg (fun p : Fin n => BitVec.ofNat 32 p.1) ?_
  refine congr (congrArg sortedFrom (funext fun a => funext fun b => ?_)) (Fin.ext ?_)
  · exact congrArg₂ (fun u v : EReal => (FloatOps.cmpfTotal (F := Ideal) (φ := .f32) .gt u v : BitVec 1) == 1#1)
      (congrArg x (along_row _ a)) (congrArg x (along_row _ b))
  · show 0 + i.1 = i.1
    omega

/-- A row and the same row padded at its end with a value that no entry is below. -/
structure Padded {n N : ℕ} (hn : n ≤ N) (x : FVec Ideal (L n) .f32) (x' : FVec Ideal (L N) .f32) (z : EReal) : Prop where
  inside : ∀ a : Fin n, x' (ix1 (Fin.castLE hn a)) = x (ix1 a)
  outside : ∀ b : Fin N, n ≤ b.1 → x' (ix1 b) = z
  least : ∀ a : Fin n, z ≤ x (ix1 a)

variable {n N : ℕ} {hn : n ≤ N} {x : FVec Ideal (L n) .f32} {x' : FVec Ideal (L N) .f32} {z : EReal}

/-- The leading places of a padded row are those of the row. -/
theorem Padded.place_eq (hp : Padded hn x x' z) (i : Fin n) : (place x' (Fin.castLE hn i)).1 = (place x i).1 := by
  refine SortPad.sortedFrom_pad hn (above x) (above x') (fun a b => ?_) (fun a b hb => ?_) i
  · unfold above
    rw [hp.inside, hp.inside]
  · rw [above_iff, hp.inside, hp.outside b hb, decide_eq_false_iff_not]
    exact not_lt.mpr (hp.least a)

/-- So are its greatest values -/
theorem Padded.values {k : ℕ} (hp : Padded hn x x' z) (h : (L n).Slices (fun _ => 0) (L k)) (h' : (L N).Slices (fun _ => 0) (L k))
    (hk : k ≤ n) : (Host.topK (L k) 0 (FloatOps.cmpfTotal .gt) x' h').1 = (Host.topK (L k) 0 (FloatOps.cmpfTotal .gt) x h).1 := by
  funext j
  obtain ⟨i, rfl⟩ : ∃ i : Fin k, j = ix1 i := ⟨j 0, funext fun a => by obtain rfl : a = 0 := Subsingleton.elim _ _; rfl⟩
  rw [topK_value x h hk, topK_value x' h' (hk.trans hn), ← hp.inside]
  exact congrArg x' (congrArg ix1 (Fin.ext (hp.place_eq (Fin.castLE hk i))))

/-- and the words that name their positions. -/
theorem Padded.indices {k : ℕ} (hp : Padded hn x x' z) (h : (L n).Slices (fun _ => 0) (L k)) (h' : (L N).Slices (fun _ => 0) (L k))
    (hk : k ≤ n) : (Host.topK (L k) 0 (FloatOps.cmpfTotal .gt) x' h').2 = (Host.topK (L k) 0 (FloatOps.cmpfTotal .gt) x h).2 := by
  funext j
  obtain ⟨i, rfl⟩ : ∃ i : Fin k, j = ix1 i := ⟨j 0, funext fun a => by obtain rfl : a = 0 := Subsingleton.elim _ _; rfl⟩
  rw [topK_index x h hk, topK_index x' h' (hk.trans hn)]
  exact congrArg (BitVec.ofNat 32) (hp.place_eq (Fin.castLE hk i))

end Cert.Proof.TopPad

end
-- ==== Proof.Value.lean ====
module
public import proofs.«01_k».proof.Defs
public import proofs.«01_k».proof.Proof.KernelValue
public import proofs.«01_k».proof.Proof.RefValue
public import proofs.«01_k».proof.Proof.TopPad
public import Idealize.ShloMosaic.Lib.DynamicIndex

/-! # The two programs' results are equal

The kernel's masked scores are the reference's with 120 entries of minus one after them, which is no
more than any entry, so the greatest 300 are the same values at the same positions. -/

@[expose] public section
set_option maxRecDepth 16384
noncomputable section

namespace Cert.Proof.Join

open Idealize.ShloMosaic Idealize.ShloMosaic.TcCoe Idealize.SL.Sem
open Cert.KernelIdeal (S5000 S5120 S5000x4 S5120x4 S1x5120 S300 S300x1 S300x4)
open Cert.Proof.Greedy (Kept)
open Cert.Proof.KernelValue (start ov coord)
open Cert.Proof.TopPad (L Padded place)

/-! ### The masked scores -/

/-- The kernel's masked scores at a position. -/
theorem masked_kernel (k : FVec Ideal S1x5120 .f32) (s : FVec Ideal S5120 .f32) (j : Fin 5120) :
    Meaning.masked k s (ix1 j) = Scalar.select (BitVec.ofBool (decide (lit 0x3F000000#32 < k (ix2 0 j)))) (s (ix1 j)) (lit 0xBF800000#32) := by
  pointwise [Meaning.masked]

open Classical in
/-- The kernel's masked scores: a kept box's padded score, minus one at the others. -/
theorem masked_flags (st : ℕ → Prop) (o : ℕ → ℕ → Prop) (s : FVec Ideal S5120 .f32) (j : Fin 5120) :
    Meaning.masked (Region.flags st o) s (ix1 j) = if Kept st o j.1 then s (ix1 j) else lit 0xBF800000#32 := by
  rw [masked_kernel, select_ofBool]
  exact if_congr (half_lt_flag _) rfl rfl

open Classical in
/-- The reference's masked scores: a kept box's score, minus one at the others. -/
theorem masked_bits (P : ℕ → Prop) (s : FVec Ideal S5000 .f32) (j : Fin 5000) :
    Ref.masked (Ref.bits P) s (ix1 j) = if P j.1 then s (ix1 j) else lit 0xBF800000#32 :=
  select_ofBool (P j.1) (s (ix1 j)) (lit 0xBF800000#32)

variable (b : FVec Ideal S5000x4 .f32) (s : FVec Ideal S5000 .f32)

/-- The kernel's masked scores -/
abbrev keptK : FVec Ideal S5120 .f32 := Meaning.masked (Region.flags (start s) (ov b)) (Meaning.padScores s)

/-- and the reference's. -/
abbrev keptR : FVec Ideal S5000 .f32 := Ref.masked (Ref.bits (Kept (start s) (ov b))) s

/-- The kernel's are the reference's, padded with minus ones, and no entry is less than that. -/
theorem padded : Padded (n := 5000) (N := 5120) (by omega) (keptR b s) (keptK b s) (lit 0xBF800000#32) where
  inside a := by
    refine (masked_flags _ _ _ _).trans (Eq.trans ?_ (masked_bits _ _ _).symm)
    rw [KernelValue.padScores_inside s _ a.2]
    rfl
  outside c hc := by
    refine (masked_flags _ _ _ _).trans ?_
    rw [KernelValue.padScores_outside s c hc, ite_self]
  least a := by
    refine le_of_le_of_eq ?_ (masked_bits _ _ _).symm
    split
    · next h =>
      obtain ⟨_, hs⟩ := Greedy.kept_start h
      exact neg_one_le_thr.trans hs.le
    · exact le_rfl

/-- The greatest values are the same -/
theorem top_eq : Meaning.top (keptK b s) = Ref.top (keptR b s) :=
  (padded b s).values Cert.ReferenceIdeal.Gen.facts.sliceFits_S5000_S300 Cert.KernelIdeal.Gen.facts.sliceFits_S5120_S300 (by omega)

/-- at the same positions. -/
theorem topAt_eq : Meaning.topAt (keptK b s) = Ref.topAt (keptR b s) :=
  (padded b s).indices Cert.ReferenceIdeal.Gen.facts.sliceFits_S5000_S300 Cert.KernelIdeal.Gen.facts.sliceFits_S5120_S300 (by omega)

/-! ### The picked boxes -/

/-- A column of picked row numbers at a position that is not negative. -/
theorem pickColumn_apply (n : BitVec 32) (p : IVec S300 32) (i : Fin 300) (h : 0 ≤ (p (ix1 i)).toInt) :
    Meaning.pickColumn n p (ix2 i 0) = p (ix1 i) := by
  refine Eq.trans ?_ (select_slt_zero_of_nonneg p
    (addi p (broadcastInDim S300 ![] Cert.KernelIdeal.Gen.facts.bcast_S_S300 (constantI Cert.KernelIdeal.S_ 32 n))) p (ix1 i) h)
  pointwise [Meaning.pickColumn]

/-- Where the positions are row numbers of the boxes, picking from the padded boxes is picking from the boxes. -/
theorem pick_eq (p : IVec S300 32) (hp : ∀ i : Fin 300, ∃ q : Fin 5000, p (ix1 i) = BitVec.ofNat 32 q.1) :
    Meaning.pick (Meaning.padBoxes b) p = Ref.pick b p := by
  funext j
  obtain ⟨i, y, rfl⟩ : ∃ (i : Fin 300) (y : Fin 4), j = ix2 i y := ⟨j 0, j 1, funext fun a => by fin_cases a <;> rfl⟩
  obtain ⟨q, hq⟩ := hp i
  have h0 : 0 ≤ (p (ix1 i)).toInt := by rw [hq, toInt_ofNat_of_lt (by omega)]; omega
  have hK := Routing.gather_row Cert.KernelIdeal.gather_S5120x4_S300x1_S300x4_1_0_n_n_0_1_14 rfl rfl rfl rfl rfl
    (Meaning.padBoxes b) (Meaning.pickColumn 5120#32 p) i y ⟨q.1, by omega⟩ ((pickColumn_apply _ p i h0).trans hq) (by omega)
  have hR := Routing.gather_row Cert.ReferenceIdeal.gather_S5000x4_S300x1_S300x4_1_0_n_n_0_1_14 rfl rfl rfl rfl rfl
    b (Meaning.pickColumn 5000#32 p) i y q ((pickColumn_apply _ p i h0).trans hq) (by omega)
  refine hK.trans (Eq.trans ?_ hR.symm)
  refine (KernelValue.padBoxes_apply b ⟨q.1, _⟩ y).trans ?_
  exact dif_pos q.2

/-- The picked boxes are equal. -/
theorem picked_eq : Meaning.pick (Meaning.padBoxes b) (Meaning.topAt (keptK b s)) = Ref.pick b (Ref.topAt (keptR b s)) := by
  rw [topAt_eq]
  refine pick_eq b _ fun i => ⟨place (n := 5000) (keptR b s) (Fin.castLE (by omega) i), ?_⟩
  exact TopPad.topK_index (n := 5000) (k := 300) (keptR b s) _ (by omega) i

/-! ### The claim -/

/-- From equal arguments the two programs end with equal results. -/
theorem algebraic : Cert.algebraic_KernelIdeal_ReferenceIdeal (hKernelIdeal := Cert.KernelIdeal.Gen.facts)
    (hReferenceIdeal := Cert.ReferenceIdeal.Gen.facts) := fun m g m' g' _ hm => by
  have hs : ∀ c, Ref.ss m' c = KernelValue.ss m c := fun c => congrArg Meaning.scores (hm c).2
  have hb : ∀ c, Ref.sb m' c = KernelValue.sb m c := fun c => congrArg₂ Meaning.boxes (hm c).1 (hm c).2
  have hR : ∀ c, Ref.kept m' c = keptR (KernelValue.sb m c) (KernelValue.ss m c) := fun c => by
    unfold Ref.kept
    rw [hs, hb]
  refine ⟨fun c => Meaning.outScores (Meaning.top (KernelValue.kept m c)), fun c => Meaning.outClasses (Meaning.top (KernelValue.kept m c)),
    fun c => Meaning.outBoxes (Meaning.top (KernelValue.kept m c))
      (Meaning.pick (Meaning.padBoxes (KernelValue.sb m c)) (Meaning.topAt (KernelValue.kept m c))),
    KernelValue.run m g, (θ_run _ _ _).mono (fun r h c => ?_) (Ref.run m' g')⟩
  obtain ⟨h0, h1, h2, ha0, ha1⟩ := h c
  have ht : Ref.top (Ref.kept m' c) = Meaning.top (KernelValue.kept m c) := by
    rw [hR]; exact (top_eq _ _).symm
  have hp : Ref.pick (Ref.sb m' c) (Ref.topAt (Ref.kept m' c))
      = Meaning.pick (Meaning.padBoxes (KernelValue.sb m c)) (Meaning.topAt (KernelValue.kept m c)) := by
    rw [hR, hb]; exact (picked_eq _ _).symm
  exact ⟨h0.trans (congrArg Meaning.outScores ht), h1.trans (congrArg Meaning.outClasses ht),
    h2.trans (congrArg₂ Meaning.outBoxes ht hp), ha0, ha1⟩

end Cert.Proof.Join

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims: the kernels' frames are the generated ones, the reference's is `Ref.frame_ri`,
    nothing was rewritten, and the two programs' results are equal by `Join.algebraic`. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Proof.Ref.frame_ri, trivial,
  Cert.Proof.Join.algebraic⟩

end Cert.Proof

end
